-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "grid_step" .f32 0x3C405E11#32 (((Real.sqrt (((5368709 / 536870912) * (Real.log 2))⁻¹)) * (1 / 1023) : ℝ) : EReal)
  ∧ IdealRules.named_const.Statement Cert.KernelIdeal.κ "root" .f32 0x41402DF9#32 ((Real.sqrt (((5368709 / 536870912) * (Real.log 2))⁻¹) : ℝ) : EReal)
  ∧ IdealRules.named_const.Statement Cert.KernelIdeal.κ "inv_ln2" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S32x1x1024 : Shape := ⟨3, ![32, 1, 1024]⟩
abbrev S8x1x1024 : Shape := ⟨3, ![8, 1, 1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩
abbrev S1024x1 : Shape := ⟨2, ![1024, 1]⟩
abbrev S1024x1024 : Shape := ⟨2, ![1024, 1024]⟩
abbrev S1x1024x1 : Shape := ⟨3, ![1, 1024, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S32x1x1024, .f32⟩
  | .hbm, ⟨2, _⟩ => ⟨S32x1x1024, .f32⟩
  | .hbm, ⟨3, _⟩ => ⟨S32x1024, .f32⟩
  | .local _ .vmem, ⟨0, _⟩ => ⟨S8x1x1024, .f32⟩
  | .local _ .vmem, ⟨1, _⟩ => ⟨S8x1x1024, .f32⟩
  | .local _ .vmem, ⟨2, _⟩ => ⟨S8x1x1024, .f32⟩
  | .local _ .vmem, ⟨3, _⟩ => ⟨S8x1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c9_i32 : BitVec 32 := 9#32
  let v205 : BitVec 32 := Scalar.addi c0_i32 c9_i32
  let c1_i32 : BitVec 32 := 1#32
  ⟨c0_i32, v205, c1_i32⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "grid_step" => some (((Real.sqrt (((5368709 / 536870912) * (Real.log 2))⁻¹)) * (1 / 1023) : ℝ) : EReal)
  | "inv_ln2" => some (((Real.log 2)⁻¹ : ℝ) : EReal)
  | "root" => some ((Real.sqrt (((5368709 / 536870912) * (Real.log 2))⁻¹) : ℝ) : EReal)
  | _ => none
-- ==== ReferenceIdeal.lean ====
abbrev S32x1024 : Shape := ⟨2, ![32, 1024]⟩
abbrev S_ : Shape := ⟨0, ![]⟩
abbrev S32 : Shape := ⟨1, ![32]⟩
abbrev S32x1 : Shape := ⟨2, ![32, 1]⟩
abbrev S1023 : Shape := ⟨1, ![1023]⟩
abbrev S1 : Shape := ⟨1, ![1]⟩
abbrev S1024 : Shape := ⟨1, ![1024]⟩
abbrev S32x1024x1 : Shape := ⟨3, ![32, 1024, 1]⟩
abbrev S1x1x1024 : Shape := ⟨3, ![1, 1, 1024]⟩
abbrev S32x1024x1024 : Shape := ⟨3, ![32, 1024, 1024]⟩
abbrev S32x1x1024 : Shape := ⟨3, ![32, 1, 1024]⟩
abbrev S1x1024 : Shape := ⟨2, ![1, 1024]⟩

abbrev nBuf : Space → Nat
  | .hbm => 156
  | .vmem => 0
  | .smem => 0
  | _ => 0

abbrev hbmTy0_0 (i : Nat) : BufTy := match i % 128 with
  | 0 => ⟨S32x1024, .f32⟩
  | 1 => ⟨S_, .f32⟩
  | 2 => ⟨S32, .f32⟩
  | 3 => ⟨S32x1, .f32⟩
  | 4 => ⟨S_, .f32⟩
  | 5 => ⟨S32, .f32⟩
  | 6 => ⟨S32x1, .f32⟩
  | 7 => ⟨S32x1024, .f32⟩
  | 8 => ⟨S32x1024, .f32⟩
  | 9 => ⟨S32x1, .f32⟩
  | 10 => ⟨S_, .f32⟩
  | 11 => ⟨S32x1, .f32⟩
  | 12 => ⟨S32x1, .f32⟩
  | 13 => ⟨S32x1024, .f32⟩
  | 14 => ⟨S32x1024, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S1023, .f32⟩
  | 23 => ⟨S_, .f32⟩
  | 24 => ⟨S1023, .f32⟩
  | 25 => ⟨S1023, .f32⟩
  | 26 => ⟨S1, .f32⟩
  | 27 => ⟨S_, .f32⟩
  | 28 => ⟨S1023, .f32⟩
  | 29 => ⟨S1023, .f32⟩
  | 30 => ⟨S1023, .f32⟩
  | 31 => ⟨S1023, .f32⟩
  | 32 => ⟨S1, .f32⟩
  | 33 => ⟨S1023, .f32⟩
  | 34 => ⟨S1023, .f32⟩
  | 35 => ⟨S1023, .f32⟩
  | 36 => ⟨S1, .f32⟩
  | 37 => ⟨S1024, .f32⟩
  | 38 => ⟨S32x1024x1, .f32⟩
  | 39 => ⟨S1x1x1024, .f32⟩
  | 40 => ⟨S32x1024x1024, .f32⟩
  | 41 => ⟨S32x1024x1024, .f32⟩
  | 42 => ⟨S32x1024x1024, .f32⟩
  | 43 => ⟨S32x1024x1024, .f32⟩
  | 44 => ⟨S_, .f32⟩
  | 45 => ⟨S_, .f32⟩
  | 46 => ⟨S_, .f32⟩
  | 47 => ⟨S_, .f32⟩
  | 48 => ⟨S1024, .f32⟩
  | 49 => ⟨S1024, .f32⟩
  | 50 => ⟨S1024, .f32⟩
  | 51 => ⟨S_, .f32⟩
  | 52 => ⟨S32x1024, .f32⟩
  | 53 => ⟨S_, .f32⟩
  | 54 => ⟨S32x1024, .f32⟩
  | 55 => ⟨S_, .i32⟩
  | 56 => ⟨S_, .i32⟩
  | 57 => ⟨S32x1024x1024, .f32⟩
  | 58 => ⟨S1024, .f32⟩
  | 59 => ⟨S_, .i32⟩
  | 60 => ⟨S_, .i32⟩
  | 61 => ⟨S32x1024, .f32⟩
  | 62 => ⟨S32x1024, .f32⟩
  | 63 => ⟨S_, .i32⟩
  | 64 => ⟨S_, .i1⟩
  | 65 => ⟨S_, .i32⟩
  | 66 => ⟨S_, .i32⟩
  | 67 => ⟨S32x1024x1, .f32⟩
  | 68 => ⟨S32x1024x1024, .f32⟩
  | 69 => ⟨S32x1024x1024, .f32⟩
  | 70 => ⟨S_, .f32⟩
  | 71 => ⟨S32x1024x1024, .f32⟩
  | 72 => ⟨S32x1024x1024, .f32⟩
  | 73 => ⟨S_, .f32⟩
  | 74 => ⟨S32x1024, .f32⟩
  | 75 => ⟨S32x1024, .f32⟩
  | 76 => ⟨S_, .f32⟩
  | 77 => ⟨S32x1024, .f32⟩
  | 78 => ⟨S32x1024, .i1⟩
  | 79 => ⟨S_, .f32⟩
  | 80 => ⟨S_, .f32⟩
  | 81 => ⟨S32x1024, .f32⟩
  | 82 => ⟨S32x1024, .f32⟩
  | 83 => ⟨S32x1x1024, .f32⟩
  | 84 => ⟨S32x1024x1024, .f32⟩
  | 85 => ⟨S32x1024x1024, .f32⟩
  | 86 => ⟨S32x1024x1024, .f32⟩
  | 87 => ⟨S_, .f32⟩
  | 88 => ⟨S32x1024, .f32⟩
  | 89 => ⟨S32x1024, .f32⟩
  | 90 => ⟨S32x1024, .f32⟩
  | 91 => ⟨S1x1024, .f32⟩
  | 92 => ⟨S32x1024, .f32⟩
  | 93 => ⟨S32x1024, .f32⟩
  | 94 => ⟨S_, .f32⟩
  | 95 => ⟨S32x1024, .f32⟩
  | 96 => ⟨S32x1024, .f32⟩
  | 97 => ⟨S32x1x1024, .f32⟩
  | 98 => ⟨S32x1024x1024, .f32⟩
  | 99 => ⟨S32x1024x1024, .f32⟩
  | 100 => ⟨S_, .f32⟩
  | 101 => ⟨S32x1024x1024, .f32⟩
  | 102 => ⟨S32x1024x1024, .f32⟩
  | 103 => ⟨S_, .f32⟩
  | 104 => ⟨S32x1024, .f32⟩
  | 105 => ⟨S32x1024, .f32⟩
  | 106 => ⟨S_, .f32⟩
  | 107 => ⟨S32x1024, .f32⟩
  | 108 => ⟨S32x1024, .i1⟩
  | 109 => ⟨S_, .f32⟩
  | 110 => ⟨S_, .f32⟩
  | 111 => ⟨S32x1024, .f32⟩
  | 112 => ⟨S32x1024, .f32⟩
  | 113 => ⟨S32x1024x1, .f32⟩
  | 114 => ⟨S32x1024x1024, .f32⟩
  | 115 => ⟨S32x1024x1024, .f32⟩
  | 116 => ⟨S32x1024x1024, .f32⟩
  | 117 => ⟨S_, .f32⟩
  | 118 => ⟨S32x1024, .f32⟩
  | 119 => ⟨S32x1024, .f32⟩
  | 120 => ⟨S32x1024, .f32⟩
  | 121 => ⟨S1x1024, .f32⟩
  | 122 => ⟨S32x1024, .f32⟩
  | 123 => ⟨S32x1024, .f32⟩
  | 124 => ⟨S_, .f32⟩
  | 125 => ⟨S32x1024, .f32⟩
  | 126 => ⟨S32x1024, .f32⟩
  | 127 => ⟨S_, .i32⟩
  | _ => ⟨S32x1024, .f32⟩

abbrev hbmTy0_1 (i : Nat) : BufTy := match i % 128 with
  | 0 => ⟨S_, .i32⟩
  | 1 => ⟨S32x1024x1, .f32⟩
  | 2 => ⟨S32x1x1024, .f32⟩
  | 3 => ⟨S32x1024x1024, .f32⟩
  | 4 => ⟨S32x1024x1024, .f32⟩
  | 5 => ⟨S32x1024x1024, .f32⟩
  | 6 => ⟨S32x1024x1024, .f32⟩
  | 7 => ⟨S_, .f32⟩
  | 8 => ⟨S32x1024x1024, .f32⟩
  | 9 => ⟨S32x1024x1024, .f32⟩
  | 10 => ⟨S32x1024x1024, .f32⟩
  | 11 => ⟨S_, .f32⟩
  | 12 => ⟨S_, .f32⟩
  | 13 => ⟨S_, .f32⟩
  | 14 => ⟨S1024, .f32⟩
  | 15 => ⟨S_, .f32⟩
  | 16 => ⟨S_, .f32⟩
  | 17 => ⟨S1024, .f32⟩
  | 18 => ⟨S32x1024, .f32⟩
  | 19 => ⟨S_, .f32⟩
  | 20 => ⟨S32x1024, .f32⟩
  | 21 => ⟨S32x1024, .f32⟩
  | 22 => ⟨S_, .f32⟩
  | 23 => ⟨S32x1024, .f32⟩
  | 24 => ⟨S32x1024, .f32⟩
  | 25 => ⟨S_, .f32⟩
  | 26 => ⟨S32x1024, .f32⟩
  | 27 => ⟨S32x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst : Ref sig .tc := ⟨.hbm, 20, rfl⟩
abbrev main_call0_v3 : Ref sig .tc := ⟨.hbm, 21, rfl⟩
abbrev main_call0_v4 : Ref sig .tc := ⟨.hbm, 22, rfl⟩
abbrev main_call0_cst_0 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_v16 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_cst_5 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_6 : Ref sig .tc := ⟨.hbm, 51, rfl⟩
abbrev main_v23 : Ref sig .tc := ⟨.hbm, 52, rfl⟩
abbrev main_cst_7 : Ref sig .tc := ⟨.hbm, 53, rfl⟩
abbrev main_v24 : Ref sig .tc := ⟨.hbm, 54, rfl⟩
abbrev main_c : Ref sig .tc := ⟨.hbm, 55, rfl⟩
abbrev main_c_8 : Ref sig .tc := ⟨.hbm, 56, rfl⟩
abbrev main_v25_0 : Ref sig .tc := ⟨.hbm, 57, rfl⟩
abbrev main_v25_1 : Ref sig .tc := ⟨.hbm, 58, rfl⟩
abbrev main_v25_2 : Ref sig .tc := ⟨.hbm, 59, rfl⟩
abbrev main_v25_3 : Ref sig .tc := ⟨.hbm, 60, rfl⟩
abbrev main_v25_4 : Ref sig .tc := ⟨.hbm, 61, rfl⟩
abbrev main_v25_5 : Ref sig .tc := ⟨.hbm, 62, rfl⟩
abbrev main_while0c_c_20 : Ref sig .tc := ⟨.hbm, 63, rfl⟩
abbrev main_while0c_v45 : Ref sig .tc := ⟨.hbm, 64, rfl⟩
abbrev main_while0b_c_20 : Ref sig .tc := ⟨.hbm, 65, rfl⟩
abbrev main_while0b_v45 : Ref sig .tc := ⟨.hbm, 66, rfl⟩
abbrev main_while0b_v46 : Ref sig .tc := ⟨.hbm, 67, rfl⟩
abbrev main_while0b_v47 : Ref sig .tc := ⟨.hbm, 68, rfl⟩
abbrev main_while0b_v48 : Ref sig .tc := ⟨.hbm, 69, rfl⟩
abbrev main_while0b_cst_21 : Ref sig .tc := ⟨.hbm, 70, rfl⟩
abbrev main_while0b_v49 : Ref sig .tc := ⟨.hbm, 71, rfl⟩
abbrev main_while0b_v50 : Ref sig .tc := ⟨.hbm, 72, rfl⟩
abbrev main_while0b_cst_22 : Ref sig .tc := ⟨.hbm, 73, rfl⟩
abbrev main_while0b_v51 : Ref sig .tc := ⟨.hbm, 74, rfl⟩
abbrev main_while0b_v52 : Ref sig .tc := ⟨.hbm, 75, rfl⟩
abbrev main_while0b_cst_23 : Ref sig .tc := ⟨.hbm, 76, rfl⟩
abbrev main_while0b_v53 : Ref sig .tc := ⟨.hbm, 77, rfl⟩
abbrev main_while0b_v54 : Ref sig .tc := ⟨.hbm, 78, rfl⟩
abbrev main_while0b_cst_24 : Ref sig .tc := ⟨.hbm, 79, rfl⟩
abbrev main_while0b_call1_v0 : Ref sig .tc := ⟨.hbm, 80, rfl⟩
abbrev main_while0b_call1_v1 : Ref sig .tc := ⟨.hbm, 81, rfl⟩
abbrev main_while0b_v55 : Ref sig .tc := ⟨.hbm, 82, rfl⟩
abbrev main_while0b_v56 : Ref sig .tc := ⟨.hbm, 83, rfl⟩
abbrev main_while0b_v57 : Ref sig .tc := ⟨.hbm, 84, rfl⟩
abbrev main_while0b_v58 : Ref sig .tc := ⟨.hbm, 85, rfl⟩
abbrev main_while0b_v59 : Ref sig .tc := ⟨.hbm, 86, rfl⟩
abbrev main_while0b_cst_25 : Ref sig .tc := ⟨.hbm, 87, rfl⟩
abbrev main_while0b_v60 : Ref sig .tc := ⟨.hbm, 88, rfl⟩
abbrev main_while0b_v61 : Ref sig .tc := ⟨.hbm, 89, rfl⟩
abbrev main_while0b_v62 : Ref sig .tc := ⟨.hbm, 90, rfl⟩
abbrev main_while0b_v63 : Ref sig .tc := ⟨.hbm, 91, rfl⟩
abbrev main_while0b_v64 : Ref sig .tc := ⟨.hbm, 92, rfl⟩
abbrev main_while0b_v65 : Ref sig .tc := ⟨.hbm, 93, rfl⟩
abbrev main_while0b_cst_26 : Ref sig .tc := ⟨.hbm, 94, rfl⟩
abbrev main_while0b_v66 : Ref sig .tc := ⟨.hbm, 95, rfl⟩
abbrev main_while0b_v67 : Ref sig .tc := ⟨.hbm, 96, rfl⟩
abbrev main_while0b_v68 : Ref sig .tc := ⟨.hbm, 97, rfl⟩
abbrev main_while0b_v69 : Ref sig .tc := ⟨.hbm, 98, rfl⟩
abbrev main_while0b_v70 : Ref sig .tc := ⟨.hbm, 99, rfl⟩
abbrev main_while0b_cst_27 : Ref sig .tc := ⟨.hbm, 100, rfl⟩
abbrev main_while0b_v71 : Ref sig .tc := ⟨.hbm, 101, rfl⟩
abbrev main_while0b_v72 : Ref sig .tc := ⟨.hbm, 102, rfl⟩
abbrev main_while0b_cst_28 : Ref sig .tc := ⟨.hbm, 103, rfl⟩
abbrev main_while0b_v73 : Ref sig .tc := ⟨.hbm, 104, rfl⟩
abbrev main_while0b_v74 : Ref sig .tc := ⟨.hbm, 105, rfl⟩
abbrev main_while0b_cst_29 : Ref sig .tc := ⟨.hbm, 106, rfl⟩
abbrev main_while0b_v75 : Ref sig .tc := ⟨.hbm, 107, rfl⟩
abbrev main_while0b_v76 : Ref sig .tc := ⟨.hbm, 108, rfl⟩
abbrev main_while0b_cst_30 : Ref sig .tc := ⟨.hbm, 109, rfl⟩
abbrev main_while0b_call2_v0 : Ref sig .tc := ⟨.hbm, 110, rfl⟩
abbrev main_while0b_call2_v1 : Ref sig .tc := ⟨.hbm, 111, rfl⟩
abbrev main_while0b_v77 : Ref sig .tc := ⟨.hbm, 112, rfl⟩
abbrev main_while0b_v78 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_cst_31 : Ref sig .tc := ⟨.hbm, 117, rfl⟩
abbrev main_while0b_v82 : Ref sig .tc := ⟨.hbm, 118, rfl⟩
abbrev main_while0b_v83 : Ref sig .tc := ⟨.hbm, 119, rfl⟩
abbrev main_while0b_v84 : Ref sig .tc := ⟨.hbm, 120, rfl⟩
abbrev main_while0b_v85 : Ref sig .tc := ⟨.hbm, 121, rfl⟩
abbrev main_while0b_v86 : Ref sig .tc := ⟨.hbm, 122, rfl⟩
abbrev main_while0b_v87 : Ref sig .tc := ⟨.hbm, 123, rfl⟩
abbrev main_while0b_cst_32 : Ref sig .tc := ⟨.hbm, 124, rfl⟩
abbrev main_while0b_v88 : Ref sig .tc := ⟨.hbm, 125, rfl⟩
abbrev main_while0b_v89 : Ref sig .tc := ⟨.hbm, 126, rfl⟩
abbrev main_while0b_c_33 : Ref sig .tc := ⟨.hbm, 127, rfl⟩
abbrev main_while0b_v90 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_cst_9 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_cst_10 : Ref sig .tc := ⟨.hbm, 139, rfl⟩
abbrev main_cst_11 : Ref sig .tc := ⟨.hbm, 140, rfl⟩
abbrev main_v35 : Ref sig .tc := ⟨.hbm, 141, rfl⟩
abbrev main_v36 : Ref sig .tc := ⟨.hbm, 142, rfl⟩
abbrev main_call3_call0_cst : Ref sig .tc := ⟨.hbm, 143, rfl⟩
abbrev main_call3_call0_v0 : Ref sig .tc := ⟨.hbm, 144, rfl⟩
abbrev main_v37 : Ref sig .tc := ⟨.hbm, 145, rfl⟩
abbrev main_v38 : Ref sig .tc := ⟨.hbm, 146, rfl⟩
abbrev main_cst_12 : Ref sig .tc := ⟨.hbm, 147, rfl⟩
abbrev main_v39 : Ref sig .tc := ⟨.hbm, 148, rfl⟩
abbrev main_v40 : Ref sig .tc := ⟨.hbm, 149, rfl⟩
abbrev main_cst_13 : Ref sig .tc := ⟨.hbm, 150, rfl⟩
abbrev main_v41 : Ref sig .tc := ⟨.hbm, 151, rfl⟩
abbrev main_v42 : Ref sig .tc := ⟨.hbm, 152, rfl⟩
abbrev main_cst_14 : Ref sig .tc := ⟨.hbm, 153, rfl⟩
abbrev main_v43 : Ref sig .tc := ⟨.hbm, 154, rfl⟩
abbrev main_v44 : Ref sig .tc := ⟨.hbm, 155, rfl⟩

abbrev nD : Nat := 1
abbrev τ : Topo := Topo.v7x

variable {F : FTy → Type} [FloatOps F]

abbrev main_while0_count : Scf.Loop 32 := ⟨0#32, 10#32, 1#32⟩
-- ==== Proof.KernelIdealBody.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Tactic
public import Idealize.ShloMosaic.Lib.Claim

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One row of the kernel -/

/-- The kernel matrix of a row: the exponential of minus the squared differences of its scaled scores and the grid. -/
def expRow (v : Vec F S1x1x1024 .f32) : FVec F S1024x1024 .f32 := k0_pay25 v

/-- One Sinkhorn step of a row: the potential of the scores from its value before. -/
def stepRow (e : FVec F S1024x1024 .f32) (p : FVec F S1024x1 .f32) : FVec F S1024x1 .f32 := k0_pay2 e p

/-- The potential of the scores after the loop's nine steps from zero. -/
def phiRow (e : FVec F S1024x1024 .f32) : FVec F S1024x1 .f32 := (stepRow e)^[9] (k0_pay42 (F := F))

/-- The row the kernel stores, from the row it loads. -/
def row (v : Vec F S1x1x1024 .f32) : FVec F S1x1x1024 .f32 :=
  k0_pay45 (k0_pay23 (F := F)) (expRow v) (k0_pay44 (expRow v) (phiRow (expRow v)))

/-! ## The loop over the eight rows is each row's own loop -/

/-- What the loop carries: one potential per row. -/
abbrev Phis (F : FTy → Type) [FloatOps F] : Type :=
  FVec F S1024x1 .f32 × FVec F S1024x1 .f32 × FVec F S1024x1 .f32 × FVec F S1024x1 .f32 × FVec F S1024x1 .f32 × FVec F S1024x1 .f32 × FVec F S1024x1 .f32 × FVec F S1024x1 .f32

/-- The eight rows' steps at once. -/
def stepAll (e0 e1 e2 e3 e4 e5 e6 e7 : FVec F S1024x1024 .f32) : Phis F → Phis F :=
  fun (p0, p1, p2, p3, p4, p5, p6, p7) =>
    (stepRow e0 p0, stepRow e1 p1, stepRow e2 p2, stepRow e3 p3, stepRow e4 p4, stepRow e5 p5, stepRow e6 p6, stepRow e7 p7)

theorem stepAll_iterate (e0 e1 e2 e3 e4 e5 e6 e7 : FVec F S1024x1024 .f32) (p0 p1 p2 p3 p4 p5 p6 p7 : FVec F S1024x1 .f32) (n : ℕ) :
    (stepAll e0 e1 e2 e3 e4 e5 e6 e7)^[n] (p0, p1, p2, p3, p4, p5, p6, p7)
      = ((stepRow e0)^[n] p0, (stepRow e1)^[n] p1, (stepRow e2)^[n] p2, (stepRow e3)^[n] p3, (stepRow e4)^[n] p4, (stepRow e5)^[n] p5,
          (stepRow e6)^[n] p6, (stepRow e7)^[n] p7) := by
  induction n with
  | zero => rfl
  | succ n ih => simp only [Function.iterate_succ_apply', ih, stepAll]

/-- The loop's region computes the eight steps and touches nothing. -/
theorem t1_body_eq (i : grid0.Coords) (arg1 : Memref sig .tc .vmem S8x1x1024 .f32) (harg1 : arg1.IsWhole)
    (arg2 : Memref sig .tc .vmem S8x1x1024 .f32) (harg2 : arg2.IsWhole) (v3 : FVec F S1x1024 .f32)
    (e0 e1 e2 e3 e4 e5 e6 : FVec F S1024x1024 .f32) (v179 : Vec F S1x1x1024 .f32) (k : Fin k0_t1_loop.trips) (acc : Phis F) :
    k0_t1_body i arg1 harg1 arg2 harg2 v3 e0 e1 e2 e3 e4 e5 e6 v179 k acc
      = .ret (stepAll e0 e1 e2 e3 e4 e5 e6 (k0_pay41 v3 v179) acc) := by
  obtain ⟨p0, p1, p2, p3, p4, p5, p6, p7⟩ := acc
  unfold k0_t1_body
  simp only [k0_part1_eq_skeleton, k0_part2_eq_skeleton, k0_part3_eq_skeleton, k0_part4_eq_skeleton, k0_part5_eq_skeleton, k0_part6_eq_skeleton]
  rfl

theorem foldl_const_iterate {α β : Type} (g : α → α) : ∀ (l : List β) (x : α), l.foldl (fun a _ => g a) x = g^[l.length] x
  | [], _ => rfl
  | _ :: l, x => by simp only [List.foldl_cons, List.length_cons, Function.iterate_succ_apply, foldl_const_iterate g l]

/-- The part of the body the loop lies in: the last row's load, and every row's potential after its nine steps. -/
theorem part11_eq (i : grid0.Coords) (arg1 : Memref sig .tc .vmem S8x1x1024 .f32) (harg1 : arg1.IsWhole)
    (arg2 : Memref sig .tc .vmem S8x1x1024 .f32) (harg2 : arg2.IsWhole) (v3 : FVec F S1x1024 .f32)
    (e0 e1 e2 e3 e4 e5 e6 : FVec F S1024x1024 .f32) :
    k0_part11 i arg1 harg1 arg2 harg2 v3 e0 e1 e2 e3 e4 e5 e6
      = (do
        let v179 : Vec F S1x1x1024 .f32 ← Prog.lift (.load arg1 (Rect.unit (s := S8x1x1024) ![7, 0, 0] S1x1x1024.size inb_S8x1x1024_S1x1x1024_7_0_0).toLoadRect (View.loadsAt_vmem h_S1x1x1024))
        pure ⟨k0_pay41 v3 v179, phiRow e1, phiRow e2, phiRow e3, phiRow e4, phiRow e5, phiRow e6, phiRow (k0_pay41 v3 v179), k0_pay44 e0 (phiRow e0)⟩) := by
  rw [k0_part11_eq_skeleton]; unfold k0_part11_skel
  congr 1
  funext v179
  have h : ∀ init : Phis F, Scf.Loop.for k0_t1_loop k0_t1_ok init (k0_t1_body i arg1 harg1 arg2 harg2 v3 e0 e1 e2 e3 e4 e5 e6 v179)
      = .ret ((stepAll e0 e1 e2 e3 e4 e5 e6 (k0_pay41 v3 v179))^[9] init) := by
    intro init
    refine (Scf.for_pure _ _ _ k0_t1_ok init _ (fun _ acc => stepAll e0 e1 e2 e3 e4 e5 e6 (k0_pay41 v3 v179) acc)
      (fun k acc => t1_body_eq i arg1 harg1 arg2 harg2 v3 e0 e1 e2 e3 e4 e5 e6 v179 k acc)).trans ?_
    rw [Scf.fold_eq, foldl_const_iterate, List.length_finRange]
    rfl
  rw [h, stepAll_iterate]
  rfl

/-! ## What the body leaves in the result's buffer -/

/-- The eight rows of the buffers, as the body's loads and stores name them. -/
abbrev r0_0 : Rect S8x1x1024 := Rect.unit (s := S8x1x1024) ![0, 0, 0] S1x1x1024.size inb_S8x1x1024_S1x1x1024_0_0_0
abbrev r0_1 : Rect S8x1x1024 := Rect.unit (s := S8x1x1024) ![1, 0, 0] S1x1x1024.size inb_S8x1x1024_S1x1x1024_1_0_0
abbrev r0_2 : Rect S8x1x1024 := Rect.unit (s := S8x1x1024) ![2, 0, 0] S1x1x1024.size inb_S8x1x1024_S1x1x1024_2_0_0
abbrev r0_3 : Rect S8x1x1024 := Rect.unit (s := S8x1x1024) ![3, 0, 0] S1x1x1024.size inb_S8x1x1024_S1x1x1024_3_0_0
abbrev r0_4 : Rect S8x1x1024 := Rect.unit (s := S8x1x1024) ![4, 0, 0] S1x1x1024.size inb_S8x1x1024_S1x1x1024_4_0_0
abbrev r0_5 : Rect S8x1x1024 := Rect.unit (s := S8x1x1024) ![5, 0, 0] S1x1x1024.size inb_S8x1x1024_S1x1x1024_5_0_0
abbrev r0_6 : Rect S8x1x1024 := Rect.unit (s := S8x1x1024) ![6, 0, 0] S1x1x1024.size inb_S8x1x1024_S1x1x1024_6_0_0
abbrev r0_7 : Rect S8x1x1024 := Rect.unit (s := S8x1x1024) ![7, 0, 0] S1x1x1024.size inb_S8x1x1024_S1x1x1024_7_0_0

/-- The result's staging buffer after the body, from the scores' block: the eight rows stored, the last store first. -/
def out0_1 (x0 : Vec F S8x1x1024 .f32) : Vec F S8x1x1024 .f32 :=
  View.canon [⟨r0_7, row (View.ld x0 r0_7)⟩,
    ⟨r0_6, row (View.ld x0 r0_6)⟩,
    ⟨r0_5, row (View.ld x0 r0_5)⟩,
    ⟨r0_4, row (View.ld x0 r0_4)⟩,
    ⟨r0_3, row (View.ld x0 r0_3)⟩,
    ⟨r0_2, row (View.ld x0 r0_2)⟩,
    ⟨r0_1, row (View.ld x0 r0_1)⟩,
    ⟨r0_0, row (View.ld x0 r0_0)⟩]

/-- The eight stores cover the buffer. -/
theorem cover0_1 (p0 p1 p2 p3 p4 p5 p6 p7 : Vec F S1x1x1024 .f32) (y : S8x1x1024.Idx) :
    ∃ pc ∈ ([⟨r0_7, p0⟩, ⟨r0_6, p1⟩, ⟨r0_5, p2⟩, ⟨r0_4, p3⟩, ⟨r0_3, p4⟩, ⟨r0_2, p5⟩, ⟨r0_1, p6⟩, ⟨r0_0, p7⟩] : List (View.Piece (Elt F) S8x1x1024 .f32)), y ∈ pc.1.set :=
  View.cover_of_tiled [⟨r0_7, p0⟩, ⟨r0_6, p1⟩, ⟨r0_5, p2⟩, ⟨r0_4, p3⟩, ⟨r0_3, p4⟩, ⟨r0_2, p5⟩, ⟨r0_1, p6⟩, ⟨r0_0, p7⟩] S1x1x1024.size (by rfl) y

/-! ## The body's triple -/

set_option maxHeartbeats 4000000 in
/-- The kernel body on whole staging buffers, the scores' at `x0` and the result's at anything, leaves the scores' as it was
    and the result's at `out0_1 x0`. -/
theorem sound_kernel (c : Dev nD) (E : Set ℕ) (i : grid0.Coords) (arg1 : Memref sig .tc .vmem S8x1x1024 .f32) (harg1 : arg1.IsWhole)
    (arg2 : Memref sig .tc .vmem S8x1x1024 .f32) (harg2 : arg2.IsWhole)
    (x0 : Vec F S8x1x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__softranks_body i arg1 harg1 arg2 harg2) K := by
  simp only [cc0__softranks_body_eq_skeleton]; unfold cc0__softranks_body_skel
  simp only [k0_part7_eq_skeleton, k0_part8_eq_skeleton, k0_part9_eq_skeleton, k0_part10_eq_skeleton, part11_eq, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0_1 _ _ _ _ _ _ _ _)).trans ?_
  rfl

/-! ## The pipeline's proof data -/

variable (m : (ℓ : Loc nD τ sig) → Buf (Elt F) ℓ) (ρ : Dev nD → PrngReg)

/-- The pipeline's data on core `c`: the arrays as the region finds them; after the body at point `t` the scores' buffer at its
    block and the result's at `out0_1` of it; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's triple as the pipeline asks for it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 1600000 in
/-- Every execution of the program ends, with every array of the pipeline at what the proof data computes, every other buffer as
    the lines after the region leave it, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument array ends as it was and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Extended.lean ====
module

public import Idealize.ShloMosaic.PureOps.Ideal.Laws
public import Idealize.ShloMosaic.Lib.Routing.Ops
public import Mathlib.Analysis.SpecialFunctions.Pow.Real

/-! Facts about extended reals that both programs need: sums and greatest elements of real families are
    real, and the scaling of a row to the unit interval gives real numbers whatever the row holds. -/

@[expose] public section

set_option maxRecDepth 16384

noncomputable section

namespace Cert.Proof.Extended

open Idealize.ShloMosaic

variable {ι : Type*} [Fintype ι]

/-- A finite sum of reals, taken in the extended reals. -/
theorem sum_coe (a : ι → ℝ) : (∑ k, (a k : EReal)) = ((∑ k, a k : ℝ) : EReal) := by
  classical
  induction (Finset.univ : Finset ι) using Finset.induction_on with
  | empty => simp
  | insert k s hk ih => rw [Finset.sum_insert hk, Finset.sum_insert hk, ih, EReal.coe_add]

/-- The greatest of a nonempty finite family of reals is a real. -/
theorem max_coe [Nonempty ι] (a : ι → ℝ) :
    ∃ r : ℝ, Finset.univ.fold max (⊥ : EReal) (fun k => (a k : EReal)) = r := by
  obtain ⟨k, -, hk⟩ := Finset.exists_mem_eq_sup (Finset.univ : Finset ι) Finset.univ_nonempty (fun k => (a k : EReal))
  exact ⟨a k, hk⟩

/-- The greatest over a product with a one-element axis in front. -/
theorem max_front {n : ℕ} (X : Fin n → EReal) :
    Finset.univ.fold max (⊥ : EReal) (fun x : Fin 1 × Fin n => X x.2) = Finset.univ.fold max ⊥ X := by
  change Finset.univ.sup (fun x : Fin 1 × Fin n => X x.2) = Finset.univ.sup X
  rw [Finset.sup_univ_eq_iSup, Finset.sup_univ_eq_iSup, iSup_prod, iSup_unique]

/-- The least over a product with a one-element axis in front. -/
theorem min_front {n : ℕ} (X : Fin n → EReal) :
    Finset.univ.fold min (⊤ : EReal) (fun x : Fin 1 × Fin n => X x.2) = Finset.univ.fold min ⊤ X := by
  change Finset.univ.inf (fun x : Fin 1 × Fin n => X x.2) = Finset.univ.inf X
  rw [Finset.inf_univ_eq_iInf, Finset.inf_univ_eq_iInf, iInf_prod, iInf_unique]

/-- The quotient of two reals. -/
theorem div_real (x : ℝ) {y : ℝ} (hy : y ≠ 0) : Ideal.div (x : EReal) (y : EReal) = ((x / y : ℝ) : EReal) := by
  rw [Ideal.div_coe hy, ← EReal.coe_mul, mul_one_div]

/-- The extent of a row: its greatest less its least element, plus a small constant. -/
def extent (X : ι → EReal) (δ : ℝ) : EReal :=
  Finset.univ.fold max ⊥ X - Finset.univ.fold min ⊤ X + (δ : EReal)

/-- A row scaled by its extent is real, and so it is when the quotient is taken first: an infinite
    extent has the inverse zero, and a finite one is positive and leaves every element finite. -/
theorem scaled (X : ι → EReal) {δ : ℝ} (hδ : 0 < δ) : ∃ z : ι → ℝ, ∀ i,
    Ideal.div (X i - Finset.univ.fold min ⊤ X) (extent X δ) = z i
      ∧ ∀ r : ℝ, (X i - Finset.univ.fold min ⊤ X) * Ideal.div r (extent X δ) = ((r * z i : ℝ) : EReal) := by
  have hhi : ∀ i, X i ≤ Finset.univ.fold max ⊥ X := fun i => Finset.le_sup (f := X) (Finset.mem_univ i)
  have hlo : ∀ i, Finset.univ.fold min ⊤ X ≤ X i := fun i => Finset.inf_le (f := X) (Finset.mem_univ i)
  rcases isEmpty_or_nonempty ι with h | ⟨⟨k⟩⟩
  · exact ⟨fun _ => 0, fun i => h.elim i⟩
  generalize hE : extent X δ = E
  unfold extent at hE
  generalize Finset.univ.fold max ⊥ X = hi at hE hhi
  generalize Finset.univ.fold min ⊤ X = lo at hE hlo ⊢
  induction E using EReal.rec with
  | bot => exact ⟨fun _ => 0, fun i => by simp [Ideal.div]⟩
  | top => exact ⟨fun _ => 0, fun i => by simp [Ideal.div]⟩
  | coe d =>
    obtain ⟨H, rfl⟩ : ∃ H : ℝ, hi = H := by
      induction hi using EReal.rec with
      | bot => simp at hE
      | top => induction lo using EReal.rec <;> simp [sub_eq_add_neg] at hE
      | coe H => exact ⟨H, rfl⟩
    obtain ⟨L, rfl⟩ : ∃ L : ℝ, lo = L := by
      induction lo using EReal.rec with
      | bot => simp [sub_eq_add_neg] at hE
      | top => simp [sub_eq_add_neg] at hE
      | coe L => exact ⟨L, rfl⟩
    have hd : d ≠ 0 := by
      have hLH : L ≤ H := EReal.coe_le_coe_iff.1 ((hlo k).trans (hhi k))
      have : H - L + δ = d := by exact_mod_cast hE
      linarith
    have hX : ∀ i, ∃ a : ℝ, X i = a := fun i =>
      ⟨(X i).toReal, (EReal.coe_toReal (fun h => by simpa [h] using hhi i) (fun h => by simpa [h] using hlo i)).symm⟩
    choose a ha using hX
    refine ⟨fun i => (a i - L) / d, fun i => ?_⟩
    rw [ha, ← EReal.coe_sub, div_real _ hd]
    refine ⟨rfl, fun r => ?_⟩
    rw [div_real _ hd, ← EReal.coe_mul]
    congr 1
    ring

/-- The logarithm of a positive real. -/
theorem log_pos {x : ℝ} (hx : 0 < x) : Ideal.log (x : EReal) = (Real.log x : ℝ) := by
  rw [Ideal.log_coe, if_neg hx.not_ge]

/-- The running sum of a vector of equal reals, as the host's window sum over the whole length. -/
theorem running_sum {N M : ℕ} (hN : M + 1 = N) (c : ℝ) (x : FVec Ideal (Routing.shape1 N) .f32) (hx : ∀ i, x i = (c : EReal))
    (init : FVec Ideal Routing.shape0 .f32) (h0 : ∀ i, init i = (0 : EReal))
    (h : (Routing.shape1 N).ReduceWindows (![N] : Fin 1 → Nat) ![1] ![M] ![0] (Routing.shape1 N))
    (hu : 0 < Routing.shape0.numel) (j : Fin N) :
    Host.reduceWindowAdd (F := Ideal) ![N] ![1] ![M] ![0] x init h hu (ValueIdx.ix1 j) = ((c * (j.val + 1) : ℝ) : EReal) := by
  subst hN
  have fold : ∀ (l : List (Fin (Routing.shape1 (M + 1)).numel)) (g : Fin (Routing.shape1 (M + 1)).numel → EReal) (r : EReal),
      l.foldl (fun r n => r + g n) r = r + (l.map g).sum := by
    intro l g
    induction l with
    | nil => simp
    | cons a l ih => intro r; rw [List.foldl_cons, ih, List.map_cons, List.sum_cons, add_assoc]
  change Host.reduceWindow (· + ·) _ _ _ _ x _ h _ _ = _
  unfold Host.reduceWindow
  dsimp only
  have hj := j.isLt
  rw [fold]
  refine (congrArg₂ (· + ·) (h0 _) (congrArg List.sum (List.map_congr_left
    (g := fun n => (((fun k : ℕ => if M ≤ j.val + k then c else 0) n.val : ℝ) : EReal)) fun n _ => ?_))).trans ?_
  · dsimp only
    have hw : ((Routing.shape1 (M + 1)).rowMajor.symm n 0).val = n.val := by rw [Routing.symm1]; rfl
    have hn : n.val < M + 1 := (n.cast (Routing.numel1 _)).isLt
    by_cases hle : M ≤ j.val + n.val
    · rw [dif_pos fun a => ?_, hx]
      · simp only [if_pos hle]
      · match a with
        | ⟨0, _⟩ =>
          show M ≤ j.val * 1 + ((Routing.shape1 (M + 1)).rowMajor.symm n 0).val
            ∧ j.val * 1 + ((Routing.shape1 (M + 1)).rowMajor.symm n 0).val - M < M + 1
          rw [hw]
          omega
    · rw [dif_neg fun hin => hle ?_, h0]
      · simp only [if_neg hle, EReal.coe_zero]
      · have := (hin 0).1
        change M ≤ j.val * 1 + ((Routing.shape1 (M + 1)).rowMajor.symm n 0).val at this
        rw [hw] at this
        omega
  rw [zero_add, ← List.ofFn_eq_map, List.sum_ofFn, sum_coe]
  congr 1
  rw [Fin.sum_univ_eq_sum_range (fun k : ℕ => if M ≤ j.val + k then c else 0), Routing.numel1, ← Finset.sum_filter,
    show (Finset.range (M + 1)).filter (fun k => M ≤ j.val + k) = Finset.Ico (M - j.val) (M + 1) by
      ext k; simp only [Finset.mem_filter, Finset.mem_range, Finset.mem_Ico]; omega,
    Finset.sum_const, Nat.card_Ico, show M + 1 - (M - j.val) = j.val + 1 by omega, nsmul_eq_mul, Nat.cast_add, Nat.cast_one, mul_comm]

/-! ### The constants of the two programs -/

/-- The regularisation: the single-precision word nearest to one hundredth. -/
def eps : ℝ := 5368709 / 536870912

theorem eps_pos : 0 < eps := by unfold eps; norm_num

/-- The small constant that keeps a row's extent positive: the word nearest to `10⁻¹²`. -/
def tiny : ℝ := 2305843 / 2305843009213693952

theorem tiny_pos : 0 < tiny := by unfold tiny; norm_num

theorem lit_top : Ideal.ofBits .f32 0x7F800000#32 = ⊤ := by simp [Ideal.ofBits, Ideal.ieee]
theorem lit_bot : Ideal.ofBits .f32 0xFF800000#32 = ⊥ := by simp [Ideal.ofBits, Ideal.ieee]
theorem lit_eps : Ideal.ofBits .f32 0x3C23D70A#32 = (eps : EReal) := by
  simp [Ideal.ofBits, Ideal.ieee, eps, -EReal.coe_mul]; norm_num
theorem lit_tiny : Ideal.ofBits .f32 0x2B8CBCCC#32 = (tiny : EReal) := by
  simp [Ideal.ofBits, Ideal.ieee, tiny, -EReal.coe_mul]; norm_num
theorem lit_neg_ten : Ideal.ofBits .f32 0xC1200000#32 = ((-10 : ℝ) : EReal) := by
  simp [Ideal.ofBits, Ideal.ieee, -EReal.coe_mul]; norm_num
theorem lit_44 : Ideal.ofBits .f32 0x42300000#32 = ((44 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_1023 : Ideal.ofBits .f32 0x447FC000#32 = ((1023 : ℝ) : EReal) := by
  simp [Ideal.ofBits, Ideal.ieee, -EReal.coe_mul]; norm_num

/-- A row scaled to the unit interval by its extent. -/
def unitRow (X : Fin 1024 → EReal) : Fin 1024 → ℝ := Classical.choose (scaled X tiny_pos)

/-- The scaled row is the quotient of the shifted row by the extent, in either order of the operations. -/
theorem unitRow_spec (X : Fin 1024 → EReal) : ∀ i,
    Ideal.div (X i - Finset.univ.fold min ⊤ X) (extent X tiny) = unitRow X i
      ∧ ∀ r : ℝ, (X i - Finset.univ.fold min ⊤ X) * Ideal.div r (extent X tiny) = ((r * unitRow X i : ℝ) : EReal) :=
  Classical.choose_spec (scaled X tiny_pos)

/-- The position of an element of a row, converted from the word that counts it. -/
theorem position (k : Fin 1024) : FloatOps.sitofp (F := Ideal) .f32 (BitVec.ofNat 32 k.val) = ((k.val : ℝ) : EReal) := by
  have hk := k.isLt
  change (((BitVec.ofNat 32 k.val).toInt : ℝ) : EReal) = _
  rw [BitVec.toInt_eq_toNat_of_lt (by rw [BitVec.toNat_ofNat]; omega), BitVec.toNat_ofNat, Nat.mod_eq_of_lt (by omega)]
  rfl

end Cert.Proof.Extended
end
-- ==== Proof.Sinkhorn.lean ====
module

public import Mathlib.Analysis.SpecialFunctions.Pow.Real

/-! The mathematics of the soft rank over the reals. The kernel keeps the potentials in units of
    `ε · log 2` and works with powers of two, the reference keeps them as they are and works with
    exponentials; every update and the final ranks agree. -/

@[expose] public section

noncomputable section

namespace Cert.Proof.Sinkhorn

open Real

variable {ι κ : Type*} [Fintype ι] [Fintype κ]

/-! ### The updates in powers of two -/

/-- One new potential, in units of `ε · log 2`, from the opposite potentials and the line's weights. -/
def half (P W : ι → ℝ) : ℝ := -10 - log (∑ i, 2 ^ P i * W i) * (log 2)⁻¹

/-- The potentials of the columns from those of the rows. -/
def colStep (E : ι → κ → ℝ) (P : ι → ℝ) : κ → ℝ := fun j => half P fun i => E i j

/-- The potentials of the rows from those of the columns. -/
def rowStep (E : ι → κ → ℝ) (Q : κ → ℝ) : ι → ℝ := fun i => half Q (E i)

/-- The ranks: the mean position of a row's mass, less one. -/
def ranks {n : ℕ} (E : ι → Fin n → ℝ) (Q : Fin n → ℝ) : ι → ℝ := fun i =>
  (∑ j, E i j * 2 ^ Q j * (j.val + 1)) / (∑ j, E i j * 2 ^ Q j) - 1

/-- The ranks after ten trips from zero. -/
def softRank {n : ℕ} (E : ι → Fin n → ℝ) : ι → ℝ :=
  ranks E (colStep E ((fun P => rowStep E (colStep E P))^[9] fun _ => 0))

theorem mass_pos [Nonempty ι] (P : ι → ℝ) {W : ι → ℝ} (hW : ∀ i, 0 < W i) : 0 < ∑ i, 2 ^ P i * W i :=
  Finset.sum_pos (fun i _ => mul_pos (rpow_pos_of_pos two_pos _) (hW i)) Finset.univ_nonempty

/-- A common shift of the exponents cancels. -/
theorem half_shift [Nonempty ι] (P : ι → ℝ) {W : ι → ℝ} (hW : ∀ i, 0 < W i) (u : ℝ) :
    -10 - u - log (∑ i, 2 ^ (P i - u) * W i) * (log 2)⁻¹ = half P W := by
  have h2 : log 2 ≠ 0 := (log_pos one_lt_two).ne'
  have e : ∑ i, (2 : ℝ) ^ (P i - u) * W i = 2 ^ (-u) * ∑ i, 2 ^ P i * W i := by
    rw [Finset.mul_sum]
    refine Finset.sum_congr rfl fun i _ => ?_
    rw [sub_eq_add_neg, rpow_add two_pos]
    ring
  rw [e, log_mul (rpow_pos_of_pos two_pos _).ne' (mass_pos P hW).ne', log_rpow two_pos, half]
  field_simp
  ring

/-- So it does in the ranks. -/
theorem ranks_shift {n : ℕ} (E : ι → Fin n → ℝ) (Q : Fin n → ℝ) (u : ℝ) (i : ι) :
    (∑ j, E i j * 2 ^ (Q j - u) * (j.val + 1)) / (∑ j, E i j * 2 ^ (Q j - u)) - 1 = ranks E Q i := by
  have e : ∀ j, E i j * 2 ^ (Q j - u) = 2 ^ (-u) * (E i j * 2 ^ Q j) := fun j => by
    rw [sub_eq_add_neg, rpow_add two_pos]
    ring
  simp only [e, mul_assoc]
  rw [← Finset.mul_sum, ← Finset.mul_sum, mul_div_mul_left _ _ (rpow_pos_of_pos two_pos _).ne']
  simp only [ranks, mul_assoc]

/-! ### The updates in exponentials -/

/-- One new potential from the opposite potentials and the line's costs. -/
def soft (ε : ℝ) (f c : ι → ℝ) : ℝ := ε * (-log 1024 - log (∑ i, exp ((f i - c i) / ε)))

/-- A common shift of the exponents, added back to the logarithm, cancels. -/
theorem soft_shift [Nonempty ι] (ε : ℝ) (f c : ι → ℝ) (u : ℝ) :
    ε * (-log 1024 - (log (∑ i, exp ((f i - c i) / ε - u)) + u)) = soft ε f c := by
  have e : ∑ i, exp ((f i - c i) / ε - u) = exp (-u) * ∑ i, exp ((f i - c i) / ε) := by
    rw [Finset.mul_sum]
    refine Finset.sum_congr rfl fun i _ => ?_
    rw [← exp_add]
    ring_nf
  have hs : (∑ i, exp ((f i - c i) / ε)) ≠ 0 := (Finset.sum_pos (fun i _ => exp_pos _) Finset.univ_nonempty).ne'
  rw [e, log_mul (exp_pos _).ne' hs, log_exp, soft]
  ring

/-- The number of points is the tenth power of two. -/
theorem log_count : log 1024 = 10 * log 2 := by
  rw [show (1024 : ℝ) = 2 ^ 10 by norm_num, log_pow]
  norm_num

/-- The weight of a cost. -/
def weight (ε c : ℝ) : ℝ := exp (-c / ε)

/-- An exponential of a potential less a cost is a power of two times a weight. -/
theorem exp_score {ε : ℝ} (hε : 0 < ε) (p c : ℝ) : exp ((ε * log 2 * p - c) / ε) = 2 ^ p * weight ε c := by
  rw [weight, rpow_def_of_pos two_pos, ← exp_add]
  congr 1
  field_simp
  ring

/-- The two updates agree, up to the unit. -/
theorem soft_eq [Nonempty ι] {ε : ℝ} (hε : 0 < ε) (P c : ι → ℝ) :
    soft ε (fun i => ε * log 2 * P i) c = ε * log 2 * half P fun i => weight ε (c i) := by
  have h2 : log 2 ≠ 0 := (log_pos one_lt_two).ne'
  simp only [soft, half, exp_score hε, log_count]
  field_simp

/-- The weight of a squared distance, as the power of two of the scaled points. -/
theorem weight_eq {ε : ℝ} (hε : 0 < ε) (z k : ℝ) :
    (2 : ℝ) ^ (-((√((ε * log 2)⁻¹) * z - k * (√((ε * log 2)⁻¹) * (1 / 1023))) * (√((ε * log 2)⁻¹) * z - k * (√((ε * log 2)⁻¹) * (1 / 1023)))))
      = weight ε ((z - k / 1023) * (z - k / 1023)) := by
  have h2 : 0 < log 2 := log_pos one_lt_two
  have hr : √((ε * log 2)⁻¹) * √((ε * log 2)⁻¹) = (ε * log 2)⁻¹ := mul_self_sqrt (by positivity)
  generalize √((ε * log 2)⁻¹) = r at hr
  have e : (r * z - k * (r * (1 / 1023))) * (r * z - k * (r * (1 / 1023)))
      = (ε * log 2)⁻¹ * ((z - k / 1023) * (z - k / 1023)) := by
    rw [← hr]
    ring
  rw [e, weight, rpow_def_of_pos two_pos]
  congr 1
  field_simp

/-- The ranks in exponentials: the positions' running weights against the plan whose row potentials are updated last. -/
theorem ranks_eq {ε : ℝ} (hε : 0 < ε) {n : ℕ} [NeZero n] (c : ι → Fin n → ℝ) (Q : Fin n → ℝ) (i : ι) :
    1024 * (∑ j, exp ((soft ε (fun j => ε * log 2 * Q j) (c i) + ε * log 2 * Q j - c i j) / ε) * (1 / 1024 * (j.val + 1))) * 1024 - 1
      = ranks (fun i j => weight ε (c i j)) Q i := by
  have h2 : log 2 ≠ 0 := (log_pos one_lt_two).ne'
  have hW : ∀ j, 0 < weight ε (c i j) := fun j => exp_pos _
  have hS : 0 < ∑ j, 2 ^ Q j * weight ε (c i j) := mass_pos Q hW
  have e : ∀ j, exp ((soft ε (fun j => ε * log 2 * Q j) (c i) + ε * log 2 * Q j - c i j) / ε)
      = (1024 * ∑ j, 2 ^ Q j * weight ε (c i j))⁻¹ * (weight ε (c i j) * 2 ^ Q j) := fun j => by
    have : (soft ε (fun j => ε * log 2 * Q j) (c i) + ε * log 2 * Q j - c i j) / ε
        = -log (1024 * ∑ j, 2 ^ Q j * weight ε (c i j)) + (ε * log 2 * Q j - c i j) / ε := by
      rw [log_mul (by norm_num) hS.ne', soft]
      simp only [exp_score hε]
      field_simp
      ring
    rw [this, exp_add, exp_score hε, exp_neg, exp_log (by positivity), mul_comm (weight ε (c i j))]
  simp only [e, ranks]
  have comm : (∑ j : Fin n, weight ε (c i j) * 2 ^ Q j : ℝ) = ∑ j : Fin n, 2 ^ Q j * weight ε (c i j) :=
    Finset.sum_congr rfl fun j _ => mul_comm _ _
  rw [comm]
  generalize (∑ j : Fin n, 2 ^ Q j * weight ε (c i j) : ℝ) = S at hS
  congr 1
  rw [Finset.mul_sum, Finset.sum_mul, div_eq_mul_inv (Finset.sum _ _), Finset.sum_mul]
  refine Finset.sum_congr rfl fun j _ => ?_
  field_simp

end Cert.Proof.Sinkhorn
end
-- ==== Proof.KernelRow.lean ====
module

public import proofs.«01_k».proof.Proof.KernelIdealBody
public import proofs.«01_k».proof.Proof.Extended
public import proofs.«01_k».proof.Proof.Sinkhorn
public import Idealize.ShloMosaic.Lib.Pipeline.ValueKit
public import Idealize.ShloMosaic.PureOps.Ideal

/-! What the kernel computes for one row, over the extended reals: the soft ranks of the row scaled to
    the unit interval. -/

@[expose] public section

set_option maxRecDepth 16384

noncomputable section

namespace Cert.Proof.KernelIdeal

open Cert.KernelIdeal Cert.KernelIdeal.Gen Cert.Proof.Extended Cert.Proof.Sinkhorn
open Idealize.ShloMosaic Idealize.ShloMosaic.TcCoe

/-- The kernel's root: the scale that makes a squared distance a binary exponent. -/
abbrev root : ℝ := √((eps * Real.log 2)⁻¹)

theorem named_root : (Named.named κ "root" 0x41402DF9#32 : Ideal .f32) = (root : EReal) :=
  IdealRules.named_const.ideal_named_scalar _ _ _ _ rfl

theorem named_step : (Named.named κ "grid_step" 0x3C405E11#32 : Ideal .f32) = ((root * (1 / 1023) : ℝ) : EReal) :=
  IdealRules.named_const.ideal_named_scalar _ _ _ _ rfl

theorem named_inv : (Named.named κ "inv_ln2" 0x3FB8AA3B#32 : Ideal .f32) = (((Real.log 2)⁻¹ : ℝ) : EReal) :=
  IdealRules.named_const.ideal_named_scalar _ _ _ _ rfl

/-- The weights of a row scaled by its extent. -/
abbrev weights (z : Fin 1024 → ℝ) : Fin 1024 → Fin 1024 → ℝ := fun i j =>
  weight eps ((z i - j.val / 1023) * (z i - j.val / 1023))

/-- A power of two of a real. -/
theorem exp2_real (x : ℝ) : FloatOps.exp2 (F := Ideal) (φ := .f32) (x : EReal) = (((2 : ℝ) ^ x : ℝ) : EReal) := rfl

/-- The kernel's weights, where the row's scaled elements are `z`. -/
theorem expRow_eq (v : Vec Ideal S1x1x1024 .f32) (z : Fin 1024 → ℝ)
    (hz : ∀ i (r : ℝ), (v (ix3 0 0 i) - Finset.univ.fold min ⊤ fun k => v (ix3 0 0 k)) * Ideal.div r (extent (fun k => v (ix3 0 0 k)) tiny)
      = ((r * z i : ℝ) : EReal)) :
    expRow (F := Ideal) v = fun i => (weights z (i 0) (i 1) : EReal) := by
  funext i
  have h := hz (i 0) root
  rw [extent] at h
  unfold expRow k0_pay25 k0_pay24 k0_pay23
  pointwise
  have hp : FloatOps.sitofp (F := Ideal) .f32 (BitVec.ofNat 32 (i 1).val) = (((i 1).val : ℝ) : EReal) := position (i 1)
  have front : (fun x : Fin 1 × Fin 1024 => v (ix3 0 x.1 x.2)) = fun x => (fun k => v (ix3 0 0 k)) x.2 :=
    funext fun x => by rw [Subsingleton.elim x.1 0]
  rw [lit_top, lit_bot, lit_tiny, named_root, named_step, hp, front, max_front (fun k => v (ix3 0 0 k)),
    min_front (fun k => v (ix3 0 0 k)), h, zero_sub]
  simp only [← EReal.coe_mul, ← EReal.coe_sub, ← EReal.coe_neg, exp2_real]
  exact congrArg _ (weight_eq eps_pos _ _)

/-- The kernel's update is the real one: the common shift of the exponents cancels. -/
theorem half_eq (P W : Fin 1024 → ℝ) (hW : ∀ i, 0 < W i) (M : ℝ) :
    ((-10 : ℝ) : EReal) - ((M : EReal) - ((44 : ℝ) : EReal))
        - Ideal.log (∑ k, FloatOps.exp2 (F := Ideal) (φ := .f32) ((P k : EReal) - ((M : EReal) - ((44 : ℝ) : EReal))) * (W k : EReal))
          * (((Real.log 2)⁻¹ : ℝ) : EReal)
      = (half P W : EReal) := by
  simp only [exp2_real, ← EReal.coe_sub, ← EReal.coe_mul, sum_coe]
  rw [log_pos (Finset.sum_pos (fun k _ => mul_pos (Real.rpow_pos_of_pos two_pos _) (hW k)) Finset.univ_nonempty),
    ← EReal.coe_mul, ← EReal.coe_sub]
  exact congrArg _ (half_shift P hW (M - 44))

/-- The columns' potentials from the rows'. -/
theorem gamma_eq (E : Fin 1024 → Fin 1024 → ℝ) (hE : ∀ i j, 0 < E i j) (P : Fin 1024 → ℝ) :
    k0_pay44 (F := Ideal) (fun i => (E (i 0) (i 1) : EReal)) (fun i => (P (i 0) : EReal)) = fun i => (colStep E P (i 1) : EReal) := by
  funext i
  obtain ⟨M, hM⟩ := max_coe fun x : Fin 1024 × Fin 1 => P x.1
  unfold k0_pay44
  pointwise
  rw [lit_bot, lit_44, lit_neg_ten, named_inv]
  rw [hM, half_eq P (fun x => E x (i 1)) fun x => hE x (i 1)]
  rfl

/-- One step of the loop. -/
theorem step_eq (E : Fin 1024 → Fin 1024 → ℝ) (hE : ∀ i j, 0 < E i j) (P : Fin 1024 → ℝ) :
    stepRow (F := Ideal) (fun i => (E (i 0) (i 1) : EReal)) (fun i => (P (i 0) : EReal))
      = fun i => (rowStep E (colStep E P) (i 0) : EReal) := by
  funext i
  obtain ⟨M, hM⟩ := max_coe fun x : Fin 1024 × Fin 1 => P x.1
  unfold stepRow k0_pay2
  pointwise
  rw [lit_bot, lit_44, lit_neg_ten, named_inv, hM]
  have inner := fun j => half_eq P (fun x => E x j) (fun x => hE x j) M
  obtain ⟨R, hR⟩ := max_coe fun x : Fin 1 × Fin 1024 => colStep E P x.2
  have outer := half_eq (colStep E P) (E (i 0)) (hE (i 0)) R
  simp only [inner]
  simp only [mul_comm (E (i 0) _ : EReal)]
  rw [show Finset.univ.fold max (⊥ : EReal) (fun x : Fin 1 × Fin 1024 => ((half P fun k => E k x.2 : ℝ) : EReal)) = R from hR]
  exact outer

/-- The ranks from the weights and the columns' potentials. -/
theorem ranks_row (E : Fin 1024 → Fin 1024 → ℝ) (hE : ∀ i j, 0 < E i j) (Q : Fin 1024 → ℝ) :
    k0_pay45 (F := Ideal) k0_pay23 (fun i => (E (i 0) (i 1) : EReal)) (fun i => (Q (i 1) : EReal)) = fun i => (ranks E Q (i 2) : EReal) := by
  funext i
  obtain ⟨M, hM⟩ := max_coe fun x : Fin 1 × Fin 1024 => Q x.2
  unfold k0_pay45 k0_pay23
  pointwise
  rw [lit_bot, lit_44, hM]
  simp only [position, exp2_real, ← EReal.coe_one, ← EReal.coe_sub, ← EReal.coe_mul, ← EReal.coe_add, sum_coe]
  rw [div_real _ (Finset.sum_pos (fun k _ => mul_pos (hE (i 2) k) (Real.rpow_pos_of_pos two_pos _)) Finset.univ_nonempty).ne',
    ← EReal.coe_sub]
  exact congrArg _ (ranks_shift E Q (M - 44) (i 2))

/-- The kernel's row: the soft ranks, where the row's scaled elements are `z`. -/
theorem row_eq (v : Vec Ideal S1x1x1024 .f32) (z : Fin 1024 → ℝ)
    (hz : ∀ i (r : ℝ), (v (ix3 0 0 i) - Finset.univ.fold min ⊤ fun k => v (ix3 0 0 k)) * Ideal.div r (extent (fun k => v (ix3 0 0 k)) tiny)
      = ((r * z i : ℝ) : EReal)) :
    row (F := Ideal) v = fun i => (softRank (weights z) (i 2) : EReal) := by
  have hE : ∀ i j, 0 < weights z i j := fun i j => Real.exp_pos _
  have start : (k0_pay42 (F := Ideal)) = fun _ => ((0 : ℝ) : EReal) := by
    funext i
    unfold k0_pay42
    pointwise
    rfl
  have steps : ∀ n, (stepRow (expRow (F := Ideal) v))^[n] k0_pay42
      = fun i => ((fun P => rowStep (weights z) (colStep (weights z) P))^[n] (fun _ => 0) (i 0) : EReal) := by
    intro n
    induction n with
    | zero => exact start
    | succ n ih => rw [Function.iterate_succ_apply', Function.iterate_succ_apply', ih, expRow_eq v z hz, step_eq _ hE]
  rw [row, phiRow, steps, expRow_eq v z hz, gamma_eq _ hE, ranks_row _ hE]
  rfl

end Cert.Proof.KernelIdeal
end
-- ==== Proof.KernelValue.lean ====
module

public import proofs.«01_k».proof.Proof.KernelRow

/-! The kernel's result array after the run: the soft ranks of every row of the argument. -/

@[expose] public section

set_option maxRecDepth 16384

noncomputable section

namespace Cert.Proof.KernelIdeal

open Cert.KernelIdeal Cert.KernelIdeal.Gen Cert.Proof.Extended Cert.Proof.Sinkhorn
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The soft ranks of a row. -/
def rankRow (X : Fin 1024 → EReal) (i : Fin 1024) : EReal := (softRank (weights (unitRow X)) i : EReal)

/-- The kernel's row is the soft ranks of the row it loads. -/
theorem row_val (v : Vec Ideal S1x1x1024 .f32) : row (F := Ideal) v = fun i => rankRow (fun k => v (ix3 0 0 k)) (i 2) :=
  row_eq v (unitRow fun k => v (ix3 0 0 k)) fun i => (unitRow_spec (fun k => v (ix3 0 0 k)) i).2

/-- What the body leaves in the result's block: the soft ranks of the eight rows of the argument's block. -/
theorem block_val (x0 : Vec Ideal S8x1x1024 .f32) (y : S8x1x1024.Idx) :
    out0_1 (F := Ideal) x0 y = rankRow (fun k => x0 (ix3 (y 0) 0 k)) (y 2) := by
  unfold out0_1
  canon_tiles x h
  all_goals
    rw [row_val]
    refine congrArg₂ rankRow (funext fun k => ?_) (Fin.ext h2.symm)
    pointwise
    blk_ext

theorem idx : ∀ t : Fin cfg0.N, win0_0.index t = ![t.val, 0, 0] ∧ win0_1.index t = ![t.val, 0, 0] :=
  (by decide +kernel : ∀ t : Fin grid0.N, _)

/-- The soft ranks of every row, with the unit axis the kernel's arrays have. -/
abbrev tall (x : FVec Ideal S32x1024 .f32) : FVec Ideal S32x1x1024 .f32 := fun i => rankRow (fun k => x (ix2 (i 0) k)) (i 2)

/-- The array the region reads: the argument with a unit axis. -/
theorem entry_eq (c : Dev nD) : V m c main_call0_v0
    = shapeCast S32x1x1024 (m ((c : Thread nD τ).loc main_arg0) : FVec Ideal S32x1024 .f32) shapeCasts_S32x1024_S32x1x1024 := by
  unfold V V0
  rfl

theorem entry_at (c : Dev nD) (i : S32x1x1024.Idx) : V m c main_call0_v0 i
    = (m ((c : Thread nD τ).loc main_arg0) : FVec Ideal S32x1024 .f32) (ix2 (i 0) (i 2)) := by
  rw [entry_eq]
  pointwise

/-- What the body leaves at a point is its block of the result. -/
theorem point (c : Dev nD) (t : Fin cfg0.N) (y : S8x1x1024.Idx) : out0_1 (F := Ideal) (iblk m c 0 t) y
    = tall (m ((c : Thread nD τ).loc main_arg0)) (((cfg0.win 1).blk t).view.emb y) := by
  rw [block_val]
  refine congrArg₂ rankRow (funext fun k => ?_) (Fin.ext ?_)
  · blk_simp [iblk]
    refine (entry_at m c _).trans ?_
    blk_ext [idx t]
  · blk_simp [idx t]

/-- The kernel's result array after its grid. -/
theorem final (c : Dev nD) : (dats m 0 c).arrAt 1 (cfgs 0).N = tall (m ((c : Thread nD τ).loc main_arg0)) := by
  refine (dats m 0 c).arrAt_eq_of_covers 1 _ (by decide +kernel) fun t _ y => ?_
  blk_simp
  rw [after0_1]
  exact point m c t y

/-- The last host line drops the unit axis of the region's array, whatever the buffers hold. -/
theorem tail_eq (W : Valuation τ sig (Elt Ideal)) : StableHlo.after [hostOps1].flatten W (Proc.devRef .tc main_v0)
    = shapeCast S32x1024 (W (Proc.devRef .tc main_call0_v1) : FVec Ideal S32x1x1024 .f32) shapeCasts_S32x1x1024_S32x1024 := rfl

/-- The region leaves its result array in the buffer that the last host line reads. -/
theorem region_eq (c : Dev nD) : Pipeline.withArrays (cfgs 0).spec c (V0 m c) (fun w => (dats m 0 c).arrAt w (cfgs 0).N) (Proc.devRef .tc main_call0_v1)
    = tall (m ((c : Thread nD τ).loc main_arg0)) :=
  (Pipeline.withArrays_arr spec0 launch0.win.arr_inj c (V0 m c) (fun w => (dats m 0 c).arrAt w (cfgs 0).N) 1).trans (final m c)

/-- The result: the region's array without its unit axis. -/
theorem result_eq (c : Dev nD) : Pipeline.afterTail₀ cfgs (dats m) 0 (V0 m) [hostOps1] c main_v0
    = fun i : S32x1024.Idx => rankRow (fun k => (m ((c : Thread nD τ).loc main_arg0) : FVec Ideal S32x1024 .f32) (ix2 (i 0) k)) (i 1) := by
  unfold Pipeline.afterTail₀
  rw [tail_eq, region_eq]
  funext i
  pointwise
  rfl

/-- The run: the result array holds the soft ranks of every row, and the argument is left alone. -/
theorem run : θ_run defs (onTc (τ := τ) (main (F := Ideal))) ⟨m, fun _ => 0, ρ⟩ (fun r => ∀ c : Dev nD,
    r.2.mem ((c.tc : Thread nD τ).loc main_v0)
        = (fun i : S32x1024.Idx => rankRow (fun k => (m ((c : Thread nD τ).loc main_arg0) : FVec Ideal S32x1024 .f32) (ix2 (i 0) k)) (i 1))
      ∧ r.2.mem ((c.tc : Thread nD τ).loc main_arg0) = m ((c.tc : Thread nD τ).loc main_arg0)) :=
  (θ_run defs (onTc main) _).mono (fun r h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c)⟩) (run_main m ρ)

end Cert.Proof.KernelIdeal
end
-- ==== Proof.Reference.lean ====
module

public import proofs.«01_k».proof.Proof.Gen.ReferenceIdeal
public import proofs.«01_k».proof.Proof.Gen.ReferenceIdeal.Run
public import Idealize.ShloMosaic.Lib.StableHlo.RunRead
public import Idealize.ShloMosaic.PureOps.Ideal
public import Idealize.ShloMosaic.Lib.Claim

/-! The run of the reference: its argument and its counters are left alone, and its result is the
    composed term `refOut` of the argument, with the Sinkhorn trips as an iterate. -/

@[expose] public section

set_option maxRecDepth 16384

noncomputable section

namespace Cert.Proof.Reference

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

/-! ### The terms -/

/-- The squared distances of the scaled rows from the grid, one matrix per row of the argument. -/
def cost (x : FVec F S32x1024 .f32) : FVec F S32x1024x1024 .f32 :=
  have lo : FVec F S32x1 .f32 := broadcastInDim S32x1 ![0] bcast_S32_S32x1_0
    (Host.reduce FloatOps.minimumf x (constant S_ .f32 0x7F800000#32) reducesTo_S32x1024_S32_d1 h_S_)
  have hi : FVec F S32x1 .f32 := broadcastInDim S32x1 ![0] bcast_S32_S32x1_0
    (Host.reduce FloatOps.maximumf x (constant S_ .f32 0xFF800000#32) reducesTo_S32x1024_S32_d1 h_S_)
  have z : FVec F S32x1024 .f32 := Host.divf
    (subf x (broadcastInDim S32x1024 ![0, 1] bcast_S32x1_S32x1024_0_1 lo))
    (broadcastInDim S32x1024 ![0, 1] bcast_S32x1_S32x1024_0_1
      (addf (subf hi lo) (broadcastInDim S32x1 ![] bcast_S_S32x1 (constant S_ .f32 0x2B8CBCCC#32))))
  have zero : FVec F S_ .f32 := constant S_ .f32 0x00000000#32
  have one : FVec F S_ .f32 := constant S_ .f32 0x3F800000#32
  have t : FVec F S1023 .f32 := Host.divf (sitofp .f32 (iotaInDim S1023 32 0))
    (broadcastInDim S1023 ![] bcast_S_S1023 (constant S_ .f32 0x447FC000#32))
  have y : FVec F S1024 .f32 := concatenate S1024 0
    [⟨S1023, addf
      (mulf (broadcastInDim S1023 ![0] bcast_S1_S1023_0 (shapeCast S1 zero shapeCasts_S_S1))
        (subf (broadcastInDim S1023 ![] bcast_S_S1023 (constant S_ .f32 0x3F800000#32)) t))
      (mulf (broadcastInDim S1023 ![0] bcast_S1_S1023_0 (shapeCast S1 one shapeCasts_S_S1)) t)⟩,
     ⟨S1, broadcastInDim S1 ![] bcast_S_S1 one⟩] concatenates_S1023_S1_S1024_d0
  have d : FVec F S32x1024x1024 .f32 := subf
    (broadcastInDim S32x1024x1024 ![0, 1, 2] bcast_S32x1024x1_S32x1024x1024_0_1_2
      (broadcastInDim S32x1024x1 ![0, 1] bcast_S32x1024_S32x1024x1_0_1 z))
    (broadcastInDim S32x1024x1024 ![0, 1, 2] bcast_S1x1x1024_S32x1024x1024_0_1_2
      (broadcastInDim S1x1x1024 ![2] bcast_S1024_S1x1x1024_2 y))
  mulf d d

/-- The logarithm of the uniform weights. -/
def logA : FVec F S1024 .f32 :=
  mulf (broadcastInDim S1024 ![] bcast_S_S1024 (Host.negf (Host.log (constant S_ .f32 0x44800000#32))))
    (broadcastInDim S1024 ![] bcast_S_S1024 (constant S_ .f32 0x3F800000#32))

/-- The potentials start at zero. -/
def start : FVec F S32x1024 .f32 := broadcastInDim S32x1024 ![] bcast_S_S32x1024 (constant S_ .f32 0x00000000#32)

/-- A row of potentials along the first axis of the cost matrix. -/
abbrev alongI (f : FVec F S32x1024 .f32) : FVec F S32x1024x1024 .f32 :=
  broadcastInDim S32x1024x1024 ![0, 1, 2] bcast_S32x1024x1_S32x1024x1024_0_1_2
    (broadcastInDim S32x1024x1 ![0, 1] bcast_S32x1024_S32x1024x1_0_1 f)

/-- A row of potentials along the second axis of the cost matrix. -/
abbrev alongJ (g : FVec F S32x1024 .f32) : FVec F S32x1024x1024 .f32 :=
  broadcastInDim S32x1024x1024 ![0, 1, 2] bcast_S32x1x1024_S32x1024x1024_0_1_2
    (broadcastInDim S32x1x1024 ![0, 2] bcast_S32x1024_S32x1x1024_0_2 g)

/-- A matrix less the cost, over the regularisation. -/
abbrev score (a C : FVec F S32x1024x1024 .f32) : FVec F S32x1024x1024 .f32 :=
  Host.divf (subf a C) (broadcastInDim S32x1024x1024 ![] bcast_S_S32x1024x1024 (constant S_ .f32 0x3C23D70A#32))

/-- The greatest of each line where it is finite, zero elsewhere. -/
abbrev guarded (m : FVec F S32x1024 .f32) : FVec F S32x1024 .f32 :=
  select (cmpf .olt (Host.absf m) (broadcastInDim S32x1024 ![] bcast_S_S32x1024 (constant S_ .f32 0x7F800000#32))) m
    (broadcastInDim S32x1024 ![] bcast_S_S32x1024 (constant S_ .f32 0x00000000#32))

/-- The new potential from the greatest element of each line and the sum of the shifted exponentials. -/
abbrev update (L : FVec F S1024 .f32) (s m : FVec F S32x1024 .f32) : FVec F S32x1024 .f32 :=
  mulf (broadcastInDim S32x1024 ![] bcast_S_S32x1024 (constant S_ .f32 0x3C23D70A#32))
    (subf (broadcastInDim S32x1024 ![0, 1] bcast_S1x1024_S32x1024_0_1
      (broadcastInDim S1x1024 ![1] bcast_S1024_S1x1024_1 L)) (addf (Host.log s) m))

/-- The greatest score of each column. -/
def topJ (C : FVec F S32x1024x1024 .f32) (f : FVec F S32x1024 .f32) : FVec F S32x1024 .f32 :=
  guarded (Host.reduce FloatOps.maximumf (score (alongI f) C) (constant S_ .f32 0xFF800000#32)
    reducesTo_S32x1024x1024_S32x1024_d1 h_S_)

/-- The greatest score of each line. -/
def topI (C : FVec F S32x1024x1024 .f32) (g : FVec F S32x1024 .f32) : FVec F S32x1024 .f32 :=
  guarded (Host.reduce FloatOps.maximumf (score (alongJ g) C) (constant S_ .f32 0xFF800000#32)
    reducesTo_S32x1024x1024_S32x1024_d2 h_S_)

/-- The second potential from the first. -/
def gNew (C : FVec F S32x1024x1024 .f32) (L : FVec F S1024 .f32) (f : FVec F S32x1024 .f32) : FVec F S32x1024 .f32 :=
  update L (Host.reduceAdd (Host.exp (subf (score (alongI f) C) (alongJ (topJ C f))))
    (constant S_ .f32 0x00000000#32) reducesTo_S32x1024x1024_S32x1024_d1 h_S_) (topJ C f)

/-- The first potential from the second. -/
def fNew (C : FVec F S32x1024x1024 .f32) (L : FVec F S1024 .f32) (g : FVec F S32x1024 .f32) : FVec F S32x1024 .f32 :=
  update L (Host.reduceAdd (Host.exp (subf (score (alongJ g) C) (alongI (topI C g))))
    (constant S_ .f32 0x00000000#32) reducesTo_S32x1024x1024_S32x1024_d2 h_S_) (topI C g)

/-- The ranks read off the coupling of the two potentials. -/
def ranks (C : FVec F S32x1024x1024 .f32) (f g : FVec F S32x1024 .f32) : FVec F S32x1024 .f32 :=
  subf
    (mulf
      (mulf (broadcastInDim S32x1024 ![] bcast_S_S32x1024 (constant S_ .f32 0x44800000#32))
        (Host.dotGeneral dot_S32x1024x1024_S1024_S32x1024_2_0_01_n_n_n none
          (Host.exp (score (addf (alongI f) (alongJ g)) C))
          (Host.reduceWindowAdd ![1024] ![1] ![1023] ![0]
            (broadcastInDim S1024 ![] bcast_S_S1024
              (Host.divf (constant S_ .f32 0x3F800000#32) (constant S_ .f32 0x44800000#32)))
            (broadcastInDim S_ ![] bcast_S_S_ (constant S_ .f32 0x00000000#32))
            reduceWindows_S1024_S1024_w1024s1p1023_0 h_S_)))
      (broadcastInDim S32x1024 ![] bcast_S_S32x1024 (constant S_ .f32 0x44800000#32)))
    (broadcastInDim S32x1024 ![] bcast_S_S32x1024 (constant S_ .f32 0x3F800000#32))

/-- One trip on the first potential. -/
def trip (C : FVec F S32x1024x1024 .f32) (L : FVec F S1024 .f32) (f : FVec F S32x1024 .f32) : FVec F S32x1024 .f32 :=
  fNew C L (gNew C L f)

/-- The reference's result. -/
def refOut (x : FVec F S32x1024 .f32) : FVec F S32x1024 .f32 :=
  have C := cost x
  have f := (trip C logA)^[9] start
  have g := gNew C logA f
  ranks C (fNew C logA g) g

/-! ### The loop -/

/-- A buffer that neither the loop's condition nor its body writes keeps its contents through the loop. -/
theorem atK_keep (c : Dev nD) (r : Ref sig .tc) (hc : r ∉ condOps_W) (h0 : r ∉ while0Ops0_W)
    (h1 : r ∉ while0Ops0_1_W) (h2 : r ∉ while0Ops0_2_W) (h3 : r ∉ while0Ops0_3_W) (h4 : r ∉ while0Ops0_4_W) :
    ∀ k, atK m k c (Proc.devRef .tc r) = entryContents preI m c (Proc.devRef .tc r)
  | 0 => rfl
  | k + 1 => by
    rw [show atK m (k + 1) c = after while0Ops0_4 (after while0Ops0_3 (after while0Ops0_2
        (after while0Ops0_1 (after while0Ops0 (after condOps (atK m k c)))))) from rfl,
      after_of_writes_sub while0Ops0_4 _ while0Ops0_4_writes h4,
      after_of_writes_sub while0Ops0_3 _ while0Ops0_3_writes h3,
      after_of_writes_sub while0Ops0_2 _ while0Ops0_2_writes h2,
      after_of_writes_sub while0Ops0_1 _ while0Ops0_1_writes h1,
      after_of_writes_sub while0Ops0 _ while0Ops0_writes h0,
      after_of_writes_sub condOps _ condOps_writes hc, atK_keep c r hc h0 h1 h2 h3 h4 k]

/-- The contents at the exit of the loop of a buffer that the condition does not write. -/
theorem exit_eq (c : Dev nD) (r : Ref sig .tc) (hc : r ∉ condOps_W) :
    after condOps (atTrip condOps bodyI (entryContents preI m) 10 c) (Proc.devRef .tc r)
      = atK m 10 c (Proc.devRef .tc r) :=
  after_of_writes_sub condOps _ condOps_writes hc

/-- Iterated trips keep the cost and the weights and iterate `trip` on the first potential. -/
theorem step_iterate (V : Valuation τ sig (Elt F)) : ∀ k,
    STEP^[k] V (Proc.devRef .tc main_v25_0) = V (Proc.devRef .tc main_v25_0)
    ∧ STEP^[k] V (Proc.devRef .tc main_v25_1) = V (Proc.devRef .tc main_v25_1)
    ∧ STEP^[k] V (Proc.devRef .tc main_v25_4)
      = (trip (V (Proc.devRef .tc main_v25_0)) (V (Proc.devRef .tc main_v25_1)))^[k] (V (Proc.devRef .tc main_v25_4))
  | 0 => ⟨rfl, rfl, rfl⟩
  | k + 1 => by
    obtain ⟨h0, h1, h4⟩ := step_iterate V k
    simp only [Function.iterate_succ_apply', STEP_main_v25_0, STEP_main_v25_1, STEP_main_v25_4]
    refine ⟨h0, h1, ?_⟩
    rw [← h4, ← h0, ← h1]
    rfl

/-- After ten trips the second potential is the one that the last trip computes from the first. -/
theorem step_second (V : Valuation τ sig (Elt F)) :
    STEP^[10] V (Proc.devRef .tc main_v25_5)
      = gNew (V (Proc.devRef .tc main_v25_0)) (V (Proc.devRef .tc main_v25_1))
          ((trip (V (Proc.devRef .tc main_v25_0)) (V (Proc.devRef .tc main_v25_1)))^[9] (V (Proc.devRef .tc main_v25_4))) := by
  obtain ⟨h0, h1, h4⟩ := step_iterate V 9
  rw [Function.iterate_succ_apply', STEP_main_v25_5, ← h4, ← h0, ← h1]
  rfl

/-! ### The entry -/

set_option maxRecDepth 100000 in
theorem entry_arg0 (c : Dev nD) :
    entryContents preI m c (Proc.devRef .tc main_arg0) = m ((c.tc : Thread nD τ).loc main_arg0) := by
  simp only [entryContents, afterL_cons, afterL_nil]
  after_reads_simp

set_option maxRecDepth 100000 in
theorem entry_cost (c : Dev nD) :
    entryContents preI m c (Proc.devRef .tc main_v17) = cost (m ((c.tc : Thread nD τ).loc main_arg0)) := by
  simp only [entryContents, afterL_cons, afterL_nil]
  after_reads_simp
  rfl

set_option maxRecDepth 100000 in
theorem entry_carried_cost (c : Dev nD) :
    entryContents preI m c (Proc.devRef .tc main_v25_0) = cost (m ((c.tc : Thread nD τ).loc main_arg0)) := by
  rw [← entry_cost]
  simp only [entryContents, afterL_cons, afterL_nil]
  after_reads_simp
  rfl

set_option maxRecDepth 100000 in
theorem entry_carried_weights (c : Dev nD) :
    entryContents preI m c (Proc.devRef .tc main_v25_1) = logA (F := F) := by
  simp only [entryContents, afterL_cons, afterL_nil]
  after_reads_simp
  rfl

set_option maxRecDepth 100000 in
theorem entry_carried_start (c : Dev nD) :
    entryContents preI m c (Proc.devRef .tc main_v25_4) = start (F := F) := by
  simp only [entryContents, afterL_cons, afterL_nil]
  after_reads_simp
  rfl

/-! ### The end -/

set_option maxRecDepth 100000 in
/-- The argument is left alone. -/
theorem final_arg0 (c : Dev nD) :
    finalContents condOps preI bodyI postI 10 m c (Proc.devRef .tc main_arg0)
      = m ((c.tc : Thread nD τ).loc main_arg0) := by
  have h := exit_eq m c main_arg0 (by decide)
  rw [atK_keep m c main_arg0 (by decide) (by decide) (by decide) (by decide) (by decide) (by decide),
    entry_arg0] at h
  refine Eq.trans ?_ h
  simp only [finalContents, afterL_cons, afterL_nil]
  generalize after condOps (atTrip condOps bodyI (entryContents preI m) 10 c) = W
  after_reads_simp

set_option maxRecDepth 100000 in
/-- The stretches after the loop read the ranks off the contents at the loop's exit. -/
theorem post_ranks (W : Valuation τ sig (Elt F)) :
    afterL postI W (Proc.devRef .tc main_v44)
      = ranks (W (Proc.devRef .tc main_v17)) (W (Proc.devRef .tc main_v25_4)) (W (Proc.devRef .tc main_v25_5)) := by
  simp only [afterL_cons, afterL_nil]
  after_reads_simp
  rfl

/-- The result is `refOut` of the argument. -/
theorem final_result (c : Dev nD) :
    finalContents condOps preI bodyI postI 10 m c (Proc.devRef .tc main_v44)
      = refOut (m ((c.tc : Thread nD τ).loc main_arg0)) := by
  have hk := atK_agree m c 10
  obtain ⟨-, -, h4⟩ := step_iterate (entryContents preI m c) 10
  have h5 := step_second (entryContents preI m c)
  rw [entry_carried_cost, entry_carried_weights, entry_carried_start] at h4 h5
  rw [show finalContents condOps preI bodyI postI 10 m c = afterL postI (after condOps (atTrip condOps bodyI (entryContents preI m) 10 c)) from rfl,
    post_ranks, exit_eq m c main_v17 (by decide), exit_eq m c main_v25_4 (by decide), exit_eq m c main_v25_5 (by decide),
    atK_keep m c main_v17 (by decide) (by decide) (by decide) (by decide) (by decide) (by decide), entry_cost,
    hk main_v25_4 (by decide), hk main_v25_5 (by decide), h4, h5, Function.iterate_succ_apply']
  rfl

/-- The reference has no semaphore, so its counters are zero. -/
theorem sem_zero {A : Type} [Zero A] (f : GSem nD τ sig → A) : f = fun _ => 0 := by
  funext g
  obtain ⟨_, s⟩ := g
  cases s with
  | reg s => exact Fin.elim0 s
  | dma s => exact Fin.elim0 s

/-- The run: the argument is left alone, every counter is zero, and the result is `refOut` of the argument. -/
theorem run (ρ : Dev nD → PrngReg) :
    θ_run (defs (F := F)) (onTc (τ := τ) (main (F := F))) ⟨m, fun _ => 0, ρ⟩
      (fun r => ∀ c : Dev nD,
        r.2.mem ((c.tc : Thread nD τ).loc main_v44) = refOut (m ((c.tc : Thread nD τ).loc main_arg0))
        ∧ r.2.mem ((c.tc : Thread nD τ).loc main_arg0) = m ((c.tc : Thread nD τ).loc main_arg0)) :=
  (θ_run defs (onTc main) _).mono (fun r h c =>
    ⟨(h c main_v44 rfl).trans (final_result m c), (h c main_arg0 rfl).trans (final_arg0 m c)⟩) (run_fold m ρ)

/-- The frame: the argument is left alone and every counter is zero. -/
theorem frame (ρ : Dev nD → PrngReg) :
    θ_run (defs (F := F)) (onTc (τ := τ) (main (F := F))) ⟨m, fun _ => 0, ρ⟩
      (fun r => (∀ c : Dev nD,
        r.2.mem ((c.tc : Thread nD τ).loc main_arg0) = m ((c.tc : Thread nD τ).loc main_arg0))
        ∧ r.2.sem = fun _ => 0) :=
  (θ_run defs (onTc main) _).mono (fun r h => ⟨fun c => (h c).2, sem_zero _⟩) (run m ρ)

end Cert.Proof.Reference
end
-- ==== Proof.ReferenceValue.lean ====
module

public import proofs.«01_k».proof.Proof.Reference
public import proofs.«01_k».proof.Proof.Extended
public import proofs.«01_k».proof.Proof.Sinkhorn
public import Idealize.ShloMosaic.Lib.Pipeline.ValueKit
public import Idealize.ShloMosaic.PureOps.Ideal

/-! What the reference computes, over the extended reals: the soft ranks of each row scaled to the unit
    interval. -/

@[expose] public section

set_option maxRecDepth 16384

noncomputable section

namespace Cert.Proof.Reference

open Cert.ReferenceIdeal Cert.ReferenceIdeal.Gen Cert.Proof.Extended Cert.Proof.Sinkhorn
open Idealize.ShloMosaic Idealize.ShloMosaic.TcCoe

/-- The squared distances of the scaled elements from the grid. -/
abbrev dist (z : Fin 1024 → ℝ) : Fin 1024 → Fin 1024 → ℝ := fun i j =>
  (z i - j.val / 1023) * (z i - j.val / 1023)

/-- The reference's costs, where the scaled elements are `z`. -/
theorem cost_eq (x : FVec Ideal S32x1024 .f32) (z : Fin 32 → Fin 1024 → ℝ)
    (hz : ∀ b i, Ideal.div (x (ix2 b i) - Finset.univ.fold min ⊤ fun k => x (ix2 b k)) (extent (fun k => x (ix2 b k)) tiny) = (z b i : EReal)) :
    cost (F := Ideal) x = fun i => (dist (z (i 0)) (i 1) (i 2) : EReal) := by
  funext i
  have h := hz (i 0) (i 1)
  rw [extent] at h
  have hp : FloatOps.sitofp (F := Ideal) .f32 (BitVec.ofNat 32 (i 2).val) = (((i 2).val : ℝ) : EReal) := position (i 2)
  have grid : (if h : (i 2).val < 1023 then
        (0 : EReal) * (1 - Ideal.div (((i 2).val : ℝ) : EReal) ((1023 : ℝ) : EReal)) + Ideal.div (((i 2).val : ℝ) : EReal) ((1023 : ℝ) : EReal)
      else 1) = ((((i 2).val : ℝ) / 1023 : ℝ) : EReal) := by
    split
    · rw [div_real _ (by norm_num), zero_mul, zero_add]
    · next hlt =>
      have : (i 2).val = 1023 := by have := (i 2).isLt; change (i 2).val < 1024 at this; omega
      rw [this]
      norm_num
  unfold cost
  pointwise
  rw [lit_top, lit_bot, lit_tiny, lit_1023, hp, grid, h]
  simp only [← EReal.coe_sub, ← EReal.coe_mul]

/-- The logarithm of the uniform weights. -/
theorem logA_eq : logA (F := Ideal) = fun _ => ((-Real.log 1024 : ℝ) : EReal) := by
  funext i
  unfold logA
  pointwise
  rw [lit_1024, log_pos (by norm_num), EReal.coe_neg]

/-- The exponential of a real. -/
theorem exp_real (x : ℝ) : Ideal.exp (x : EReal) = (Real.exp x : EReal) := rfl

/-- The reference's update is the real one: the shift is real, so the guard keeps it and it cancels. -/
theorem soft_real (f c : Fin 1024 → ℝ) (M : ℝ) :
    (eps : EReal) * (((-Real.log 1024 : ℝ) : EReal)
        - (Ideal.log (∑ k, Ideal.exp (Ideal.div ((f k : EReal) - (c k : EReal)) (eps : EReal) - (M : EReal))) + (M : EReal)))
      = (soft eps f c : EReal) := by
  simp only [← EReal.coe_sub, div_real _ eps_pos.ne', exp_real, sum_coe]
  rw [log_pos (Finset.sum_pos (fun k _ => Real.exp_pos _) Finset.univ_nonempty), ← EReal.coe_add, ← EReal.coe_sub, ← EReal.coe_mul]
  exact congrArg _ (soft_shift eps f c M)

/-- The guard keeps a real. -/
theorem guarded_real (M : Fin 32 → Fin 1024 → ℝ) :
    guarded (F := Ideal) (fun i => (M (i 0) (i 1) : EReal)) = fun i => (M (i 0) (i 1) : EReal) := by
  funext i
  have h : FloatOps.absf (F := Ideal) (φ := .f32) (M (i 0) (i 1) : EReal) < (⊤ : EReal) :=
    max_lt (EReal.coe_lt_top _) ((EReal.coe_neg _).symm ▸ EReal.coe_lt_top _)
  unfold guarded
  pointwise
  rw [lit_top, if_pos h]

/-- The greatest scores of the columns are real. -/
theorem topJ_real (c : Fin 32 → Fin 1024 → Fin 1024 → ℝ) (f : Fin 32 → Fin 1024 → ℝ) : ∃ M : Fin 32 → Fin 1024 → ℝ,
    topJ (F := Ideal) (fun i => (c (i 0) (i 1) (i 2) : EReal)) (fun i => (f (i 0) (i 1) : EReal)) = fun i => (M (i 0) (i 1) : EReal) := by
  choose M hM using fun (b : Fin 32) (j : Fin 1024) => max_coe fun k : Fin 1024 => (f b k - c b k j) / eps
  refine ⟨M, Eq.trans (congrArg guarded (funext fun i => ?_)) (guarded_real M)⟩
  unfold score
  pointwise
  rw [lit_bot, lit_eps]
  simp only [← EReal.coe_sub, div_real _ eps_pos.ne']
  exact hM (i 0) (i 1)

/-- So are those of the rows. -/
theorem topI_real (c : Fin 32 → Fin 1024 → Fin 1024 → ℝ) (g : Fin 32 → Fin 1024 → ℝ) : ∃ M : Fin 32 → Fin 1024 → ℝ,
    topI (F := Ideal) (fun i => (c (i 0) (i 1) (i 2) : EReal)) (fun i => (g (i 0) (i 1) : EReal)) = fun i => (M (i 0) (i 1) : EReal) := by
  choose M hM using fun (b : Fin 32) (i : Fin 1024) => max_coe fun k : Fin 1024 => (g b k - c b i k) / eps
  refine ⟨M, Eq.trans (congrArg guarded (funext fun i => ?_)) (guarded_real M)⟩
  unfold score
  pointwise
  rw [lit_bot, lit_eps]
  simp only [← EReal.coe_sub, div_real _ eps_pos.ne']
  exact hM (i 0) (i 1)

/-- The columns' potentials from the rows'. -/
theorem gNew_eq (c : Fin 32 → Fin 1024 → Fin 1024 → ℝ) (f : Fin 32 → Fin 1024 → ℝ) :
    gNew (F := Ideal) (fun i => (c (i 0) (i 1) (i 2) : EReal)) logA (fun i => (f (i 0) (i 1) : EReal))
      = fun i => (soft eps (f (i 0)) (fun k => c (i 0) k (i 1)) : EReal) := by
  funext i
  obtain ⟨M, hM⟩ := topJ_real c f
  rw [gNew, hM, logA_eq]
  unfold update score
  pointwise
  rw [lit_eps]
  exact soft_real _ _ _

/-- The rows' potentials from the columns'. -/
theorem fNew_eq (c : Fin 32 → Fin 1024 → Fin 1024 → ℝ) (g : Fin 32 → Fin 1024 → ℝ) :
    fNew (F := Ideal) (fun i => (c (i 0) (i 1) (i 2) : EReal)) logA (fun i => (g (i 0) (i 1) : EReal))
      = fun i => (soft eps (g (i 0)) (c (i 0) (i 1)) : EReal) := by
  funext i
  obtain ⟨M, hM⟩ := topI_real c g
  rw [fNew, hM, logA_eq]
  unfold update score
  pointwise
  rw [lit_eps]
  exact soft_real _ _ _

/-- The reference's ranks from its costs and potentials. -/
theorem ranks_real (c : Fin 32 → Fin 1024 → Fin 1024 → ℝ) (f g : Fin 32 → Fin 1024 → ℝ) :
    ranks (F := Ideal) (fun i => (c (i 0) (i 1) (i 2) : EReal)) (fun i => (f (i 0) (i 1) : EReal)) (fun i => (g (i 0) (i 1) : EReal))
      = fun i => ((1024 * (∑ j : Fin 1024, Real.exp ((f (i 0) (i 1) + g (i 0) j - c (i 0) (i 1) j) / eps) * (1 / 1024 * (j.val + 1))) * 1024 - 1 : ℝ) : EReal) := by
  funext i
  have run := fun k : Fin 1024 => running_sum (N := 1024) (M := 1023) rfl (1 / 1024)
    (broadcastInDim S1024 ![] bcast_S_S1024 (Host.divf (constant S_ .f32 0x3F800000#32) (constant S_ .f32 0x44800000#32)))
    (fun j => by pointwise; rw [lit_1024, ← EReal.coe_one, div_real _ (by norm_num)])
    (broadcastInDim S_ ![] bcast_S_S_ (constant S_ .f32 0x00000000#32)) (fun j => by pointwise) reduceWindows_S1024_S1024_w1024s1p1023_0
    h_S_ k
  unfold ranks score alongI alongJ
  pointwise
  rw [lit_1024, lit_eps]
  have point : ∀ k : Fin 1024, (ix1 k : S1024.Idx) = ValueIdx.ix1 k := fun k => by
    funext a
    match a with
    | ⟨0, _⟩ => rfl
  simp only [point, run, ← EReal.coe_add, ← EReal.coe_sub, div_real _ eps_pos.ne', exp_real, ← EReal.coe_mul, sum_coe, ← EReal.coe_one]

/-- The reference's result: the soft ranks of each row, where the scaled elements are `z`. -/
theorem refOut_eq (x : FVec Ideal S32x1024 .f32) (z : Fin 32 → Fin 1024 → ℝ)
    (hz : ∀ b i, Ideal.div (x (ix2 b i) - Finset.univ.fold min ⊤ fun k => x (ix2 b k)) (extent (fun k => x (ix2 b k)) tiny) = (z b i : EReal)) :
    refOut (F := Ideal) x = fun i => (softRank (fun a b => weight eps (dist (z (i 0)) a b)) (i 1) : EReal) := by
  let E : Fin 32 → Fin 1024 → Fin 1024 → ℝ := fun b i j => weight eps (dist (z b) i j)
  let step : Fin 32 → (Fin 1024 → ℝ) → Fin 1024 → ℝ := fun b P => rowStep (E b) (colStep (E b) P)
  have col : ∀ P : Fin 32 → Fin 1024 → ℝ,
      gNew (F := Ideal) (cost x) logA (fun i => ((eps * Real.log 2 * P (i 0) (i 1) : ℝ) : EReal))
        = fun i => ((eps * Real.log 2 * colStep (E (i 0)) (P (i 0)) (i 1) : ℝ) : EReal) := fun P => by
    rw [cost_eq x z hz]
    refine (gNew_eq (fun b => dist (z b)) fun b i => eps * Real.log 2 * P b i).trans (funext fun i => congrArg _ ?_)
    exact soft_eq eps_pos (P (i 0)) fun k => dist (z (i 0)) k (i 1)
  have row : ∀ Q : Fin 32 → Fin 1024 → ℝ,
      fNew (F := Ideal) (cost x) logA (fun i => ((eps * Real.log 2 * Q (i 0) (i 1) : ℝ) : EReal))
        = fun i => ((eps * Real.log 2 * rowStep (E (i 0)) (Q (i 0)) (i 1) : ℝ) : EReal) := fun Q => by
    rw [cost_eq x z hz]
    refine (fNew_eq (fun b => dist (z b)) fun b i => eps * Real.log 2 * Q b i).trans (funext fun i => congrArg _ ?_)
    exact soft_eq eps_pos (Q (i 0)) (dist (z (i 0)) (i 1))
  have trips : ∀ n, (trip (F := Ideal) (cost x) logA)^[n] start
      = fun i => ((eps * Real.log 2 * (step (i 0))^[n] (fun _ => 0) (i 1) : ℝ) : EReal) := by
    intro n
    induction n with
    | zero =>
      funext i
      simp only [Function.iterate_zero, id, mul_zero]
      unfold start
      pointwise
      rfl
    | succ n ih =>
      simp only [Function.iterate_succ_apply']
      rw [ih, trip, col fun b => (step b)^[n] fun _ => 0, row fun b => colStep (E b) ((step b)^[n] fun _ => 0)]
  change ranks (cost x) (fNew (cost x) logA (gNew (cost x) logA ((trip (cost x) logA)^[9] start)))
    (gNew (cost x) logA ((trip (cost x) logA)^[9] start)) = _
  rw [trips, col fun b => (step b)^[9] fun _ => 0, cost_eq x z hz,
    fNew_eq (fun b => dist (z b)) fun b i => eps * Real.log 2 * colStep (E b) ((step b)^[9] fun _ => 0) i]
  refine (ranks_real (fun b => dist (z b)) (fun b i => soft eps (fun j => eps * Real.log 2 * colStep (E b) ((step b)^[9] fun _ => 0) j) (dist (z b) i))
    fun b i => eps * Real.log 2 * colStep (E b) ((step b)^[9] fun _ => 0) i).trans (funext fun i => congrArg _ ?_)
  exact ranks_eq eps_pos (dist (z (i 0))) (colStep (E (i 0)) ((step (i 0))^[9] fun _ => 0)) (i 1)

end Cert.Proof.Reference
end
-- ==== Proof.lean ====
module

public import proofs.«01_k».proof.Defs
public import proofs.«01_k».proof.Proof.KernelBody
public import proofs.«01_k».proof.Proof.KernelValue
public import proofs.«01_k».proof.Proof.ReferenceValue

@[expose] public section

noncomputable section

namespace Cert.Proof

open Idealize.ShloMosaic Idealize.ShloMosaic.TcCoe Idealize.SL.Sem Cert.Proof.Extended

/-- The reference's result is the soft ranks of every row, as the kernel's is. -/
theorem reference_eq (x : FVec Ideal Cert.ReferenceIdeal.S32x1024 .f32) :
    Reference.refOut (F := Ideal) x = fun i => KernelIdeal.rankRow (fun k => x (ix2 (i 0) k)) (i 1) :=
  Reference.refOut_eq x (fun b => unitRow fun k => x (ix2 b k)) fun b i => (unitRow_spec (fun k => x (ix2 b k)) i).1

theorem claim : Cert.Claim := ⟨Cert.Kernel.Gen.facts, Cert.KernelIdeal.Gen.facts, Cert.ReferenceIdeal.Gen.facts,
  fun m g _ => Kernel.frame m g,
  fun m g _ => KernelIdeal.frame m g,
  fun m g _ => Reference.frame m g,
  ⟨IdealRules.named_const.statement Cert.KernelIdeal.κ "grid_step" .f32 0x3C405E11#32 _ rfl,
    IdealRules.named_const.statement Cert.KernelIdeal.κ "root" .f32 0x41402DF9#32 _ rfl,
    IdealRules.named_const.statement Cert.KernelIdeal.κ "inv_ln2" .f32 0x3FB8AA3B#32 _ rfl⟩,
  fun m g m' g' _ hagree => ⟨_, KernelIdeal.run m g,
    (θ_run (Cert.ReferenceIdeal.defs (F := Ideal)) (onTc Cert.ReferenceIdeal.main) _).mono (fun r h c =>
      ⟨(h c).1.trans (by rw [hagree c]; exact reference_eq _), (h c).2⟩) (Reference.run m' g')⟩⟩

end Cert.Proof

end
